-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S32x2048x256 : Shape := ⟨3, ![32, 2048, 256]⟩
abbrev S32x2048x4 : Shape := ⟨3, ![32, 2048, 4]⟩
abbrev S32x1536x256 : Shape := ⟨3, ![32, 1536, 256]⟩
abbrev S32x1536x4 : Shape := ⟨3, ![32, 1536, 4]⟩
abbrev S256x256 : Shape := ⟨2, ![256, 256]⟩
abbrev S4x8 : Shape := ⟨2, ![4, 8]⟩
abbrev S4 : Shape := ⟨1, ![4]⟩
abbrev S_ : Shape := ⟨0, ![]⟩

class Facts : Prop where
  bcast_S_S32x2048x256 : S_.BroadcastsInDim S32x2048x256 (![] : Fin 0 → Fin S32x2048x256.rank)
  bcast_S_S256x256 : S_.BroadcastsInDim S256x256 (![] : Fin 0 → Fin S256x256.rank)
  bcast_S_S4x8 : S_.BroadcastsInDim S4x8 (![] : Fin 0 → Fin S4x8.rank)

variable [Facts]

def fn {F : FTy → Type} [FloatOps F] (main_arg0 : FVec F S32x2048x256 .f32) (main_arg1 : FVec F S32x2048x4 .f32) (main_arg2 : FVec F S32x1536x256 .f32) (main_arg3 : FVec F S32x1536x4 .f32) (main_arg4 : FVec F S256x256 .f32) (main_arg5 : FVec F S4x8 .f32) (main_arg6 : FVec F S4 .f32) : IVec S32x2048x256 1 × IVec S256x256 1 × IVec S4x8 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_v3 : FVec F S256x256 .f32 := Host.absf main_arg4
  let main_cst_0 : FVec F S_ .f32 := constant S_ .f32 0x7F800000#32
  let main_v4 : FVec F S256x256 .f32 := broadcastInDim S256x256 ![] bcast_S_S256x256 main_cst_0
  let main_v5 : IVec S256x256 1 := cmpf .olt main_v3 main_v4
  let main_v6 : FVec F S4x8 .f32 := Host.absf main_arg5
  let main_cst_1 : FVec F S_ .f32 := constant S_ .f32 0x7F800000#32
  let main_v7 : FVec F S4x8 .f32 := broadcastInDim S4x8 ![] bcast_S_S4x8 main_cst_1
  let main_v8 : IVec S4x8 1 := cmpf .olt main_v6 main_v7
  (main_v2, main_v5, main_v8)
-- ==== Kernel.lean ====
abbrev S32x2048x256 : Shape := ⟨3, ![32, 2048, 256]⟩
abbrev S32x2048x4 : Shape := ⟨3, ![32, 2048, 4]⟩
abbrev S32x1536x256 : Shape := ⟨3, ![32, 1536, 256]⟩
abbrev S32x1536x4 : Shape := ⟨3, ![32, 1536, 4]⟩
abbrev S256x256 : Shape := ⟨2, ![256, 256]⟩
abbrev S4x8 : Shape := ⟨2, ![4, 8]⟩
abbrev S4 : Shape := ⟨1, ![4]⟩
abbrev S32x1024x256 : Shape := ⟨3, ![32, 1024, 256]⟩
abbrev S1024x2048 : Shape := ⟨2, ![1024, 2048]⟩
abbrev S1024x256 : Shape := ⟨2, ![1024, 256]⟩
abbrev S2x4x2048x256 : Shape := ⟨4, ![2, 4, 2048, 256]⟩
abbrev S2x4x1024x256 : Shape := ⟨4, ![2, 4, 1024, 256]⟩
abbrev S2 : Shape := ⟨1, ![2]⟩
abbrev S1 : Shape := ⟨1, ![1]⟩
abbrev S_ : Shape := ⟨0, ![]⟩
abbrev S1x4x2048x256 : Shape := ⟨4, ![1, 4, 2048, 256]⟩
abbrev S4x2048x256 : Shape := ⟨3, ![4, 2048, 256]⟩
abbrev S1x1 : Shape := ⟨2, ![1, 1]⟩
abbrev S1024 : Shape := ⟨1, ![1024]⟩
abbrev S1024x1 : Shape := ⟨2, ![1024, 1]⟩
abbrev S1x256 : Shape := ⟨2, ![1, 256]⟩
abbrev S1x1x2048x256 : Shape := ⟨4, ![1, 1, 2048, 256]⟩
abbrev S2048x256 : Shape := ⟨2, ![2048, 256]⟩
abbrev S256 : Shape := ⟨1, ![256]⟩
abbrev S1x1x256x256 : Shape := ⟨4, ![1, 1, 256, 256]⟩
abbrev S4x1024x256 : Shape := ⟨3, ![4, 1024, 256]⟩
abbrev S1x4x1024x256 : Shape := ⟨4, ![1, 4, 1024, 256]⟩

abbrev nBuf : Space → Nat
  | .hbm => 8
  | .vmem => 5
  | .smem => 2
  | _ => 0

abbrev bufTy : (tb : Table) → Fin (tcTables nBuf tb) → BufTy
  | .hbm, ⟨0, _⟩ => ⟨S32x2048x256, .f32⟩
  | .hbm, ⟨1, _⟩ => ⟨S32x2048x4, .f32⟩
  | .hbm, ⟨2, _⟩ => ⟨S32x1536x256, .f32⟩
  | .hbm, ⟨3, _⟩ => ⟨S32x1536x4, .f32⟩
  | .hbm, ⟨4, _⟩ => ⟨S256x256, .f32⟩
  | .hbm, ⟨5, _⟩ => ⟨S4x8, .f32⟩
  | .hbm, ⟨6, _⟩ => ⟨S4, .f32⟩
  | .hbm, ⟨7, _⟩ => ⟨S32x1024x256, .f32⟩
  | .local _ .vmem, ⟨0, _⟩ => ⟨S256x256, .f32⟩
  | .local _ .vmem, ⟨1, _⟩ => ⟨S1024x2048, .f32⟩
  | .local _ .vmem, ⟨2, _⟩ => ⟨S1024x256, .f32⟩
  | .local _ .vmem, ⟨3, _⟩ => ⟨S2x4x2048x256, .f32⟩
  | .local _ .vmem, ⟨4, _⟩ => ⟨S2x4x1024x256, .f32⟩
  | .local _ .smem, ⟨0, _⟩ => ⟨S4, .f32⟩
  | .local _ .smem, ⟨1, _⟩ => ⟨S4x8, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32x2048x256 : Shape := ⟨3, ![32, 2048, 256]⟩
abbrev S32x2048x4 : Shape := ⟨3, ![32, 2048, 4]⟩
abbrev S32x1536x256 : Shape := ⟨3, ![32, 1536, 256]⟩
abbrev S32x1536x4 : Shape := ⟨3, ![32, 1536, 4]⟩
abbrev S256x256 : Shape := ⟨2, ![256, 256]⟩
abbrev S4x8 : Shape := ⟨2, ![4, 8]⟩
abbrev S4 : Shape := ⟨1, ![4]⟩
abbrev S_ : Shape := ⟨0, ![]⟩
abbrev S32x256 : Shape := ⟨2, ![32, 256]⟩
abbrev S32x1x256 : Shape := ⟨3, ![32, 1, 256]⟩
abbrev S32x8x256x256 : Shape := ⟨4, ![32, 8, 256, 256]⟩
abbrev S8x32x256x256 : Shape := ⟨4, ![8, 32, 256, 256]⟩
abbrev S10x256x256 : Shape := ⟨3, ![10, 256, 256]⟩
abbrev S1x256x256 : Shape := ⟨3, ![1, 256, 256]⟩
abbrev S11x256x256 : Shape := ⟨3, ![11, 256, 256]⟩
abbrev S8 : Shape := ⟨1, ![8]⟩
abbrev S1x8 : Shape := ⟨2, ![1, 8]⟩
abbrev S4x1 : Shape := ⟨2, ![4, 1]⟩
abbrev S4x8x1 : Shape := ⟨3, ![4, 8, 1]⟩
abbrev S4x8x256x256 : Shape := ⟨4, ![4, 8, 256, 256]⟩
abbrev S8x32x256x4x256 : Shape := ⟨5, ![8, 32, 256, 4, 256]⟩
abbrev S4x8x32x256x256 : Shape := ⟨5, ![4, 8, 32, 256, 256]⟩
abbrev S4x32x256x256 : Shape := ⟨4, ![4, 32, 256, 256]⟩
abbrev S4x1x1x1 : Shape := ⟨4, ![4, 1, 1, 1]⟩
abbrev S32x4x256x256 : Shape := ⟨4, ![32, 4, 256, 256]⟩
abbrev S32x1024x256 : Shape := ⟨3, ![32, 1024, 256]⟩

abbrev nBuf : Space → Nat
  | .hbm => 103
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x2048x4, .f32⟩
  | .hbm, ⟨2, _⟩ => ⟨S32x1536x256, .f32⟩
  | .hbm, ⟨3, _⟩ => ⟨S32x1536x4, .f32⟩
  | .hbm, ⟨4, _⟩ => ⟨S256x256, .f32⟩
  | .hbm, ⟨5, _⟩ => ⟨S4x8, .f32⟩
  | .hbm, ⟨6, _⟩ => ⟨S4, .f32⟩
  | .hbm, ⟨7, _⟩ => ⟨S_, .f32⟩
  | .hbm, ⟨8, _⟩ => ⟨S32x256, .f32⟩
  | .hbm, ⟨9, _⟩ => ⟨S32x1x256, .f32⟩
  | .hbm, ⟨10, _⟩ => ⟨S_, .f32⟩
  | .hbm, ⟨11, _⟩ => ⟨S32x1x256, .f32⟩
  | .hbm, ⟨12, _⟩ => ⟨S32x1x256, .f32⟩
  | .hbm, ⟨13, _⟩ => ⟨S32x2048x256, .f32⟩
  | .hbm, ⟨14, _⟩ => ⟨S32x2048x256, .f32⟩
  | .hbm, ⟨15, _⟩ => ⟨S_, .i32⟩
  | .hbm, ⟨16, _⟩ => ⟨S_, .f32⟩
  | .hbm, ⟨17, _⟩ => ⟨S32x256, .f32⟩
  | .hbm, ⟨18, _⟩ => ⟨S32x1x256, .f32⟩
  | .hbm, ⟨19, _⟩ => ⟨S_, .f32⟩
  | .hbm, ⟨20, _⟩ => ⟨S32x1x256, .f32⟩
  | .hbm, ⟨21, _⟩ => ⟨S32x1x256, .f32⟩
  | .hbm, ⟨22, _⟩ => ⟨S32x2048x256, .f32⟩
  | .hbm, ⟨23, _⟩ => ⟨S32x2048x256, .f32⟩
  | .hbm, ⟨24, _⟩ => ⟨S32x2048x256, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32x256, .f32⟩
  | .hbm, ⟨30, _⟩ => ⟨S32x1x256, .f32⟩
  | .hbm, ⟨31, _⟩ => ⟨S32x1x256, .f32⟩
  | .hbm, ⟨32, _⟩ => ⟨S32x1x256, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S32x1x256, .f32⟩
  | .hbm, ⟨38, _⟩ => ⟨S32x1x256, .f32⟩
  | .hbm, ⟨39, _⟩ => ⟨S_, .f32⟩
  | .hbm, ⟨40, _⟩ => ⟨S32x1x256, .f32⟩
  | .hbm, ⟨41, _⟩ => ⟨S32x1x256, .f32⟩
  | .hbm, ⟨42, _⟩ => ⟨S32x1x256, .f32⟩
  | .hbm, ⟨43, _⟩ => ⟨S32x2048x256, .f32⟩
  | .hbm, ⟨44, _⟩ => ⟨S32x2048x256, .f32⟩
  | .hbm, ⟨45, _⟩ => ⟨S32x8x256x256, .f32⟩
  | .hbm, ⟨46, _⟩ => ⟨S8x32x256x256, .f32⟩
  | .hbm, ⟨47, _⟩ => ⟨S_, .f32⟩
  | .hbm, ⟨48, _⟩ => ⟨S10x256x256, .f32⟩
  | .hbm, ⟨49, _⟩ => ⟨S_, .i32⟩
  | .hbm, ⟨50, _⟩ => ⟨S256x256, .f32⟩
  | .hbm, ⟨51, _⟩ => ⟨S_, .i32⟩
  | .hbm, ⟨52, _⟩ => ⟨S256x256, .f32⟩
  | .hbm, ⟨53, _⟩ => ⟨S10x256x256, .f32⟩
  | .hbm, ⟨54, _⟩ => ⟨S_, .i32⟩
  | .hbm, ⟨55, _⟩ => ⟨S_, .i1⟩
  | .hbm, ⟨56, _⟩ => ⟨S256x256, .f32⟩
  | .hbm, ⟨57, _⟩ => ⟨S1x256x256, .f32⟩
  | .hbm, ⟨58, _⟩ => ⟨S_, .i32⟩
  | .hbm, ⟨59, _⟩ => ⟨S_, .i32⟩
  | .hbm, ⟨60, _⟩ => ⟨S10x256x256, .f32⟩
  | .hbm, ⟨61, _⟩ => ⟨S_, .i32⟩
  | .hbm, ⟨62, _⟩ => ⟨S_, .i32⟩
  | .hbm, ⟨63, _⟩ => ⟨S1x256x256, .f32⟩
  | .hbm, ⟨64, _⟩ => ⟨S11x256x256, .f32⟩
  | .hbm, ⟨65, _⟩ => ⟨S8, .i32⟩
  | .hbm, ⟨66, _⟩ => ⟨S_, .i32⟩
  | .hbm, ⟨67, _⟩ => ⟨S8, .i32⟩
  | .hbm, ⟨68, _⟩ => ⟨S8, .i32⟩
  | .hbm, ⟨69, _⟩ => ⟨S1x8, .i32⟩
  | .hbm, ⟨70, _⟩ => ⟨S4, .i32⟩
  | .hbm, ⟨71, _⟩ => ⟨S4x1, .i32⟩
  | .hbm, ⟨72, _⟩ => ⟨S4x8, .i32⟩
  | .hbm, ⟨73, _⟩ => ⟨S4x8, .i32⟩
  | .hbm, ⟨74, _⟩ => ⟨S4x8, .i32⟩
  | .hbm, ⟨75, _⟩ => ⟨S_, .i32⟩
  | .hbm, ⟨76, _⟩ => ⟨S4x8, .i32⟩
  | .hbm, ⟨77, _⟩ => ⟨S4x8, .i32⟩
  | .hbm, ⟨78, _⟩ => ⟨S_, .i32⟩
  | .hbm, ⟨79, _⟩ => ⟨S4x8, .i32⟩
  | .hbm, ⟨80, _⟩ => ⟨S4x8, .i1⟩
  | .hbm, ⟨81, _⟩ => ⟨S_, .i32⟩
  | .hbm, ⟨82, _⟩ => ⟨S4x8, .i32⟩
  | .hbm, ⟨83, _⟩ => ⟨S4x8, .i32⟩
  | .hbm, ⟨84, _⟩ => ⟨S4x8, .i32⟩
  | .hbm, ⟨85, _⟩ => ⟨S4x8x1, .i32⟩
  | .hbm, ⟨86, _⟩ => ⟨S4x8x256x256, .f32⟩
  | .hbm, ⟨87, _⟩ => ⟨S8x32x256x4x256, .f32⟩
  | .hbm, ⟨88, _⟩ => ⟨S4x8x32x256x256, .f32⟩
  | .hbm, ⟨89, _⟩ => ⟨S4x32x256x256, .f32⟩
  | .hbm, ⟨90, _⟩ => ⟨S4x1x1x1, .f32⟩
  | .hbm, ⟨91, _⟩ => ⟨S4x32x256x256, .f32⟩
  | .hbm, ⟨92, _⟩ => ⟨S4x32x256x256, .f32⟩
  | .hbm, ⟨93, _⟩ => ⟨S32x4x256x256, .f32⟩
  | .hbm, ⟨94, _⟩ => ⟨S32x1024x256, .f32⟩
  | .hbm, ⟨95, _⟩ => ⟨S32x256, .f32⟩
  | .hbm, ⟨96, _⟩ => ⟨S32x1x256, .f32⟩
  | .hbm, ⟨97, _⟩ => ⟨S32x1024x256, .f32⟩
  | .hbm, ⟨98, _⟩ => ⟨S32x1024x256, .f32⟩
  | .hbm, ⟨99, _⟩ => ⟨S32x256, .f32⟩
  | .hbm, ⟨100, _⟩ => ⟨S32x1x256, .f32⟩
  | .hbm, ⟨101, _⟩ => ⟨S32x1024x256, .f32⟩
  | .hbm, ⟨102, _⟩ => ⟨S32x1024x256, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_cst_3 : Ref sig .tc := ⟨.hbm, 33, rfl⟩
abbrev main_call0_v13 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_2 : Ref sig .tc := ⟨.hbm, 47, rfl⟩
abbrev main_v14 : Ref sig .tc := ⟨.hbm, 48, rfl⟩
abbrev main_c_3 : Ref sig .tc := ⟨.hbm, 49, rfl⟩
abbrev main_v15_0 : Ref sig .tc := ⟨.hbm, 50, rfl⟩
abbrev main_v15_1 : Ref sig .tc := ⟨.hbm, 51, rfl⟩
abbrev main_v15_2 : Ref sig .tc := ⟨.hbm, 52, rfl⟩
abbrev main_v15_3 : Ref sig .tc := ⟨.hbm, 53, rfl⟩
abbrev main_while0c_c_11 : Ref sig .tc := ⟨.hbm, 54, rfl⟩
abbrev main_while0c_v52 : Ref sig .tc := ⟨.hbm, 55, rfl⟩
abbrev main_while0b_v52 : Ref sig .tc := ⟨.hbm, 56, rfl⟩
abbrev main_while0b_call1_v0 : Ref sig .tc := ⟨.hbm, 57, rfl⟩
abbrev main_while0b_call1_c : Ref sig .tc := ⟨.hbm, 58, rfl⟩
abbrev main_while0b_call1_c_0 : Ref sig .tc := ⟨.hbm, 59, rfl⟩
abbrev main_while0b_v53 : Ref sig .tc := ⟨.hbm, 60, rfl⟩
abbrev main_while0b_c_11 : Ref sig .tc := ⟨.hbm, 61, rfl⟩
abbrev main_while0b_v54 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_c_4 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_c_5 : Ref sig .tc := ⟨.hbm, 75, rfl⟩
abbrev main_v27 : Ref sig .tc := ⟨.hbm, 76, rfl⟩
abbrev main_v28 : Ref sig .tc := ⟨.hbm, 77, rfl⟩
abbrev main_c_6 : Ref sig .tc := ⟨.hbm, 78, rfl⟩
abbrev main_v29 : Ref sig .tc := ⟨.hbm, 79, rfl⟩
abbrev main_v30 : Ref sig .tc := ⟨.hbm, 80, rfl⟩
abbrev main_c_7 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩

abbrev nD : Nat := 1
abbrev τ : Topo := Topo.v7x

variable {F : FTy → Type} [FloatOps F]

abbrev main_while0_count : Scf.Loop 32 := ⟨0#32, 10#32, 1#32⟩
-- ==== Proof.KernelRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The table of weighted powers. -/
abbrev gM : Memref sig .tc .vmem S1024x2048 .f32 := Memref.whole cc0_scratch0
/-- The buffer of one minus the table's row sums. -/
abbrev rsM : Memref sig .tc .vmem S1024x256 .f32 := Memref.whole cc0_scratch1
/-- The input buffer, of two slots. -/
abbrev xbM : Memref sig .tc .vmem S2x4x2048x256 .f32 := Memref.whole cc0_scratch2
/-- The output buffer, of two slots. -/
abbrev obM : Memref sig .tc .vmem S2x4x1024x256 .f32 := Memref.whole cc0_scratch3
/-- The series. -/
abbrev xM : Memref sig .tc .hbm S32x2048x256 .f32 := Memref.whole main_arg0
/-- The result. -/
abbrev oM : Memref sig .tc .hbm S32x1024x256 .f32 := Memref.whole main_v0
/-- The contents of the buffer that a reference views, on core `c`. -/
abbrev HbBuf (c : Dev nD) {sp : Space} {S : Shape} {e : EltTy} (M : Memref sig .tc sp S e) : Type := Buf (Elt F) (M.view.loc (c : Thread nD τ))
/-- A buffer held whole, with contents `f`. -/
abbrev hbPt (c : Dev nD) {sp : Space} {S : Shape} {e : EltTy} (M : Memref sig .tc sp S e) (f : HbBuf (F := F) c M) : sProp 𝕄 :=
  M.view.loc (c : Thread nD τ) ↦{fullShare} f

/-- The elements that a reference views, held with contents `f`. -/
abbrev vwPt (c : Dev nD) {sp : Space} {S : Shape} {e : EltTy} (M : Memref sig .tc sp S e) (f : HbBuf (F := F) c M) : sProp 𝕄 :=
  M.view.loc (c : Thread nD τ) ↦[M.view.set]{fullShare} f
/-- Slot 0 of the input buffer. -/
abbrev xbR0 : Rect S2x4x2048x256 := Rect.unit (s := S2x4x2048x256) ![0, 0, 0, 0] S1x4x2048x256.size inb_S2x4x2048x256_S1x4x2048x256_0_0_0_0
/-- Slot 1 of the input buffer. -/
abbrev xbR1 : Rect S2x4x2048x256 := Rect.unit (s := S2x4x2048x256) ![1, 0, 0, 0] S1x4x2048x256.size inb_S2x4x2048x256_S1x4x2048x256_1_0_0_0
/-- Slot 0 of the output buffer. -/
abbrev obR0 : Rect S2x4x1024x256 := Rect.unit (s := S2x4x1024x256) ![0, 0, 0, 0] S1x4x1024x256.size inb_S2x4x1024x256_S1x4x1024x256_0_0_0_0
/-- Slot 1 of the output buffer. -/
abbrev obR1 : Rect S2x4x1024x256 := Rect.unit (s := S2x4x1024x256) ![1, 0, 0, 0] S1x4x1024x256.size inb_S2x4x1024x256_S1x4x1024x256_1_0_0_0
/-- A part of the input buffer, held with contents `f`. -/
abbrev xbPt (c : Dev nD) (R : Rect S2x4x2048x256) (f : HbBuf (F := F) c xbM) : sProp 𝕄 := xbM.view.loc (c : Thread nD τ) ↦[xbM.view.setOn R.set]{fullShare} f
/-- A part of the output buffer, held with contents `f`. -/
abbrev obPt (c : Dev nD) (R : Rect S2x4x1024x256) (f : HbBuf (F := F) c obM) : sProp 𝕄 := obM.view.loc (c : Thread nD τ) ↦[obM.view.setOn R.set]{fullShare} f

set_option sl_exec.dmaWindow true in
set_option sl_exec.dmaWindowSet true in
set_option sl_exec.dmaWindowLent true in
/-- The body's run, from its operands and its buffers at any contents: what the result ends with, and that the run ends so. -/
noncomputable def kernelRun (c : Dev nD) (a0 : Memref sig .tc .smem S4 .f32) (ha0 : a0.IsWhole)
    (a1 : Memref sig .tc .vmem S256x256 .f32) (ha1 : a1.IsWhole) (a2 : Memref sig .tc .smem S4x8 .f32) (ha2 : a2.IsWhole)
    (f0 : HbBuf (F := F) c a0) (f1 : HbBuf (F := F) c a1) (f2 : HbBuf (F := F) c a2)
    (fx : HbBuf (F := F) c xM) (fo : HbBuf (F := F) c oM)
    (fg : HbBuf (F := F) c gM) (fr : HbBuf (F := F) c rsM)
    (fxb0 fxb1 : HbBuf (F := F) c xbM) (fob0 fob1 : HbBuf (F := F) c obM) :
    { fo' : HbBuf (F := F) c oM //
      ∀ (W : Waits sig Unit) (K : PUnit → sProp 𝕄),
        iprop(vwPt c a0 f0 ∗ vwPt c a1 f1 ∗ vwPt c a2 f2 ∗ vwPt c gM fg ∗ vwPt c rsM fr
            ∗ xbPt c xbR0 fxb0 ∗ xbPt c xbR1 fxb1 ∗ obPt c obR0 fob0 ∗ obPt c obR1 fob1
            ∗ semVal ((c : Thread nD τ), SemLoc.dma 3) 0 ∗ semVal ((c : Thread nD τ), SemLoc.dma 4) 0
            ∗ semVal ((c : Thread nD τ), SemLoc.dma 5) 0 ∗ semVal ((c : Thread nD τ), SemLoc.dma 6) 0
            ∗ hbPt c xM fx ∗ hbPt c oM fo
            ∗ owes (c : Thread nD τ) 0 W
            ∗ (iprop(vwPt c a0 f0 ∗ vwPt c a1 f1 ∗ vwPt c a2 f2 ∗ (∃ f, vwPt c gM f) ∗ (∃ f, vwPt c rsM f)
                ∗ (∃ f, xbPt c xbR0 f) ∗ (∃ f, xbPt c xbR1 f) ∗ (∃ f, obPt c obR0 f) ∗ (∃ f, obPt c obR1 f)
                ∗ semVal ((c : Thread nD τ), SemLoc.dma 3) 0 ∗ semVal ((c : Thread nD τ), SemLoc.dma 4) 0
                ∗ semVal ((c : Thread nD τ), SemLoc.dma 5) 0 ∗ semVal ((c : Thread nD τ), SemLoc.dma 6) 0
                ∗ hbPt c xM fx ∗ hbPt c oM fo'
                ∗ (∃ W', owes (c : Thread nD τ) 0 W')) -∗ K ⟨⟩))
          ⊢ wp frame (wpE (defs₀ (F := F)) Variants.none c none) Set.univ
              (cc0_seg_linear_manual a0 ha0 a1 ha1 a2 ha2 xM (Memref.isWhole_whole _) oM (Memref.isWhole_whole _)
                gM (Memref.isWhole_whole _) rsM (Memref.isWhole_whole _) xbM (Memref.isWhole_whole _) obM (Memref.isWhole_whole _)
                cc0_scratch4 cc0_scratch5) K } := by
  refine ⟨?_, fun W K => ?run⟩
  case run =>
    simp only [cc0_seg_linear_manual_eq_skeleton]; unfold cc0_seg_linear_manual_skel
    iintro ⟨H0, H1, H2, Hg, Hr, Hxb0, Hxb1, Hob0, Hob1, Hq0, Hq1, Hq2, Hq3, Hx, Ho, HW, Hk⟩
    sl_exec_parts
    sl_step
    iapply Hk
    isplitl [H0]; · iexact H0
    isplitl [H1]; · iexact H1
    isplitl [H2]; · iexact H2
    isplitl [Hg]; · iexists _; iexact Hg
    isplitl [Hr]; · iexists _; iexact Hr
    isplitl [Hxb0]; · iexists _; iexact Hxb0
    isplitl [Hxb1]; · iexists _; iexact Hxb1
    isplitl [Hob0]; · iexists _; iexact Hob0
    isplitl [Hob1]; · iexists _; iexact Hob1
    isplitl [Hq0]; · iexact Hq0
    isplitl [Hq1]; · iexact Hq1
    isplitl [Hq2]; · iexact Hq2
    isplitl [Hq3]; · iexact Hq3
    isplitl [Hx]; · iexact Hx
    isplitl [Ho]; · iexact Ho
    iexists _; iexact HW

end Cert.KernelIdeal.Hand
end
-- ==== Proof.KernelSpec.lean ====
module

public import proofs.«01_k».proof.Proof.KernelRun
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

/-- Four rows of 256 lie inside the four-block output buffer of a slot. -/
theorem inb_piece (σ : Fin 2) (i l : Fin 4) :
    ∀ a, (![σ.val, i.val, 256 * l.val, 0] : Fin 4 → ℕ) a + S1x1x256x256.size a ≤ S2x4x1024x256.size a := by
  intro a
  match a with
  | ⟨0, _⟩ => show σ.val + 1 ≤ 2; omega
  | ⟨1, _⟩ => show i.val + 1 ≤ 4; omega
  | ⟨2, _⟩ => show 256 * l.val + 256 ≤ 1024; omega
  | ⟨3, _⟩ => show 0 + 256 ≤ 256; omega

/-- One batch of a slot lies in the input buffer. -/
theorem inb_xload (σ : Fin 2) (i : Fin 4) :
    ∀ a, (![σ.val, i.val, 0, 0] : Fin 4 → ℕ) a + S1x1x2048x256.size a ≤ S2x4x2048x256.size a := by
  intro a
  match a with
  | ⟨0, _⟩ => show σ.val + 1 ≤ 2; omega
  | ⟨1, _⟩ => show i.val + 1 ≤ 4; omega
  | ⟨2, _⟩ => show 0 + 2048 ≤ 2048; omega
  | ⟨3, _⟩ => show 0 + 256 ≤ 256; omega

/-- A slot lies in the input buffer. -/
theorem inb_xslot (σ : Fin 2) :
    ∀ a, (![σ.val, 0, 0, 0] : Fin 4 → ℕ) a + S1x4x2048x256.size a ≤ S2x4x2048x256.size a := by
  intro a
  match a with
  | ⟨0, _⟩ => show σ.val + 1 ≤ 2; omega
  | ⟨1, _⟩ => show 0 + 4 ≤ 4; omega
  | ⟨2, _⟩ => show 0 + 2048 ≤ 2048; omega
  | ⟨3, _⟩ => show 0 + 256 ≤ 256; omega

/-- A slot lies in the output buffer. -/
theorem inb_oslot (σ : Fin 2) :
    ∀ a, (![σ.val, 0, 0, 0] : Fin 4 → ℕ) a + S1x4x1024x256.size a ≤ S2x4x1024x256.size a := by
  intro a
  match a with
  | ⟨0, _⟩ => show σ.val + 1 ≤ 2; omega
  | ⟨1, _⟩ => show 0 + 4 ≤ 4; omega
  | ⟨2, _⟩ => show 0 + 1024 ≤ 1024; omega
  | ⟨3, _⟩ => show 0 + 256 ≤ 256; omega

/-- The four batches of a step lie in the series. -/
theorem inb_xstep (s : Fin 8) :
    ∀ a, (![4 * s.val, 0, 0] : Fin 3 → ℕ) a + S4x2048x256.size a ≤ S32x2048x256.size a := by
  intro a
  match a with
  | ⟨0, _⟩ => show 4 * s.val + 4 ≤ 32; omega
  | ⟨1, _⟩ => show 0 + 2048 ≤ 2048; omega
  | ⟨2, _⟩ => show 0 + 256 ≤ 256; omega

/-- The rows of one forecast segment lie in the buffer of row sums. -/
theorem inb_rsblk (l : Fin 4) :
    ∀ a, (![256 * l.val, 0] : Fin 2 → ℕ) a + S256x256.size a ≤ S1024x256.size a := by
  intro a
  match a with
  | ⟨0, _⟩ => show 256 * l.val + 256 ≤ 1024; omega
  | ⟨1, _⟩ => show 0 + 256 ≤ 256; omega

/-- Each offset lies in the offsets. -/
theorem inb_benc (l : Fin 4) : ∀ a, (![l.val] : Fin 1 → ℕ) a + S1.size a ≤ S4.size a := by
  intro a
  match a with
  | ⟨0, _⟩ => show l.val + 1 ≤ 4; omega

/-- The rows of one forecast segment are a slice of the product. -/
theorem slices_d (l : Fin 4) : S1024x256.Slices ![256 * l.val, 0] S256x256 := by
  fin_cases l
  · exact slices_S1024x256_o0_0_S256x256
  · exact slices_S1024x256_o256_0_S256x256
  · exact slices_S1024x256_o512_0_S256x256
  · exact slices_S1024x256_o768_0_S256x256

/-- Output block `l` of one batch: the slab's rows of `g @ x` plus `rs * mean + b * stdev`. -/
def outPiece (g : Vec F S1024x2048 .f32) (rsb : Fin 4 → Vec F S256x256 .f32) (be : Fin 4 → Elt F .f32)
    (l : Fin 4) (x : Vec F S1x1x2048x256 .f32) : Vec F S1x1x256x256 .f32 :=
  shapeCast S1x1x256x256
    (addf (extractStridedSlice S256x256 ![256 * l.val, 0] (k0_pay51 x g) (slices_d l))
      (addf (mulf (rsb l) (broadcastTo S256x256 (k0_pay49 x) broadcasts_S1x256_S256x256))
        (broadcastTo S256x256 (mulf (broadcast S1x256 (be l)) (k0_pay50 x)) broadcasts_S1x256_S256x256)))
    shapeCasts_S256x256_S1x1x256x256

/-- The sixteen stores of one step into a slot of the output buffer, the latest first. -/
def stepPieces (g : Vec F S1024x2048 .f32) (rsb : Fin 4 → Vec F S256x256 .f32) (be : Fin 4 → Elt F .f32)
    (σ : Fin 2) (x : Fin 4 → Vec F S1x1x2048x256 .f32) : List (View.Piece (Elt F) S2x4x1024x256 .f32) :=
  ([3, 2, 1, 0] : List (Fin 4)).flatMap fun i => ([3, 2, 1, 0] : List (Fin 4)).map fun l =>
    ⟨Rect.unit (s := S2x4x1024x256) ![σ.val, i.val, 256 * l.val, 0] S1x1x256x256.size (inb_piece σ i l), outPiece g rsb be l (x i)⟩

section
variable (c : Dev nD) (a0 : Memref sig .tc .smem S4 .f32)
    (a1 : Memref sig .tc .vmem S256x256 .f32) (a2 : Memref sig .tc .smem S4x8 .f32)
    (f0 : HbBuf (F := F) c a0) (f1 : HbBuf (F := F) c a1) (f2 : HbBuf (F := F) c a2)
    (fx : HbBuf (F := F) c xM) (fxb : HbBuf (F := F) c xbM) (fob : HbBuf (F := F) c obM)

/-- The powers' table the kernel holds in its first scratch buffer. -/
abbrev gV : Vec F S1024x2048 .f32 := kernelRun.sl.v213 c a1 a2 f1 f2

/-- The block of the row-sum table that output block `l` uses. -/
abbrev rsV (l : Fin 4) : Vec F S256x256 .f32 :=
  rsM.view.readCov (kernelRun.sl.Hr_1 c a1 a2 f1 f2) (Rect.unit (s := S1024x256) ![256 * l.val, 0] S256x256.size (inb_rsblk l)).toLoadRect

/-- The bias of output block `l`. -/
abbrev beV (l : Fin 4) : Elt F .f32 :=
  View.readAt (Elt F) a0.view (Rect.unit (s := S4) ![l.val] S1.size (inb_benc l)).toLoadRect f0 (Shape.Idx.first (show 0 < S1.numel by decide))

/-- The slot `σ` of the input buffer, as a copy's destination. -/
abbrev xSlot (σ : Fin 2) : Memref sig .tc .vmem S4x2048x256 .f32 :=
  (xbM.slice (Rect.unit (s := S2x4x2048x256) ![σ.val, 0, 0, 0] S1x4x2048x256.size (inb_xslot σ)) (fun _ => rfl)).squeeze
    S4x2048x256 squeezes_S1x4x2048x256_S4x2048x256

/-- The four batches of step `s`, as a copy reads them. -/
abbrev xStep (s : Fin 8) : S4x2048x256.Idx → Elt F .f32 :=
  ReadAs.same.apply (View.read (Elt F) (xM.slice (Rect.unit (s := S32x2048x256) ![4 * s.val, 0, 0] S4x2048x256.size (inb_xstep s)) (fun _ => rfl)).view fx)

/-- Step `s`'s batches arriving in slot `σ`. -/
abbrev xArr (σ : Fin 2) (s : Fin 8) (f : HbBuf (F := F) c xbM) : HbBuf (F := F) c xbM :=
  View.write (Elt F) (xSlot σ).view f (xStep c fx s) Finset.univ

/-- The load of batch `i` of slot `σ`. -/
abbrev xLoad (σ : Fin 2) (f : HbBuf (F := F) c xbM) (i : Fin 4) : Vec F S1x1x2048x256 .f32 :=
  View.readAt (Elt F) xbM.view (Rect.unit (s := S2x4x2048x256) ![σ.val, i.val, 0, 0] S1x1x2048x256.size (inb_xload σ i)).toLoadRect f

/-- The stores in output slot 0 up to step 0 are that step's, after the earlier ones. -/
theorem ob0_16 : kernelRun.sl.Hob0_16 c a0 a1 a2 f0 f1 f2 fx fxb =
    stepPieces (gV c a1 a2 f1 f2) (rsV c a1 a2 f1 f2) (beV c a0 f0) 0 (xLoad c 0 (xArr c fx 0 0 fxb)) ++ [] := rfl
/-- The stores in output slot 0 up to step 2 are that step's, after the earlier ones. -/
theorem ob0_32 : kernelRun.sl.Hob0_32 c a0 a1 a2 f0 f1 f2 fx fxb =
    stepPieces (gV c a1 a2 f1 f2) (rsV c a1 a2 f1 f2) (beV c a0 f0) 0 (xLoad c 0 (xArr c fx 0 2 (xArr c fx 0 0 fxb)))
      ++ kernelRun.sl.Hob0_16 c a0 a1 a2 f0 f1 f2 fx fxb := rfl
/-- The stores in output slot 0 up to step 4 are that step's, after the earlier ones. -/
theorem ob0_48 : kernelRun.sl.Hob0_48 c a0 a1 a2 f0 f1 f2 fx fxb =
    stepPieces (gV c a1 a2 f1 f2) (rsV c a1 a2 f1 f2) (beV c a0 f0) 0 (xLoad c 0 (xArr c fx 0 4 (xArr c fx 0 2 (xArr c fx 0 0 fxb))))
      ++ kernelRun.sl.Hob0_32 c a0 a1 a2 f0 f1 f2 fx fxb := rfl
/-- The stores in output slot 0 up to step 6 are that step's, after the earlier ones. -/
theorem ob0_64 : kernelRun.sl.Hob0_64 c a0 a1 a2 f0 f1 f2 fx fxb =
    stepPieces (gV c a1 a2 f1 f2) (rsV c a1 a2 f1 f2) (beV c a0 f0) 0 (xLoad c 0 (xArr c fx 0 6 (xArr c fx 0 4 (xArr c fx 0 2 (xArr c fx 0 0 fxb)))))
      ++ kernelRun.sl.Hob0_48 c a0 a1 a2 f0 f1 f2 fx fxb := rfl
/-- The stores in output slot 1 up to step 1 are that step's, after the earlier ones. -/
theorem ob1_16 : kernelRun.sl.Hob1_16 c a0 a1 a2 f0 f1 f2 fx fxb =
    stepPieces (gV c a1 a2 f1 f2) (rsV c a1 a2 f1 f2) (beV c a0 f0) 1 (xLoad c 1 (xArr c fx 1 1 fxb)) ++ [] := rfl
/-- The stores in output slot 1 up to step 3 are that step's, after the earlier ones. -/
theorem ob1_32 : kernelRun.sl.Hob1_32 c a0 a1 a2 f0 f1 f2 fx fxb =
    stepPieces (gV c a1 a2 f1 f2) (rsV c a1 a2 f1 f2) (beV c a0 f0) 1 (xLoad c 1 (xArr c fx 1 3 (xArr c fx 1 1 fxb)))
      ++ kernelRun.sl.Hob1_16 c a0 a1 a2 f0 f1 f2 fx fxb := rfl
/-- The stores in output slot 1 up to step 5 are that step's, after the earlier ones. -/
theorem ob1_48 : kernelRun.sl.Hob1_48 c a0 a1 a2 f0 f1 f2 fx fxb =
    stepPieces (gV c a1 a2 f1 f2) (rsV c a1 a2 f1 f2) (beV c a0 f0) 1 (xLoad c 1 (xArr c fx 1 5 (xArr c fx 1 3 (xArr c fx 1 1 fxb))))
      ++ kernelRun.sl.Hob1_32 c a0 a1 a2 f0 f1 f2 fx fxb := rfl
/-- The stores in output slot 1 up to step 7 are that step's, after the earlier ones. -/
theorem ob1_64 : kernelRun.sl.Hob1_64 c a0 a1 a2 f0 f1 f2 fx fxb =
    stepPieces (gV c a1 a2 f1 f2) (rsV c a1 a2 f1 f2) (beV c a0 f0) 1 (xLoad c 1 (xArr c fx 1 7 (xArr c fx 1 5 (xArr c fx 1 3 (xArr c fx 1 1 fxb)))))
      ++ kernelRun.sl.Hob1_48 c a0 a1 a2 f0 f1 f2 fx fxb := rfl

/-- Step `s` reads batches `4 s` to `4 s + 3` of the series. -/
theorem xStep_apply (s : Fin 8) (i : Fin 4) (p : Fin 2048) (n : Fin 256) :
    xStep c fx s (ix3 i p n) = View.read (Elt F) xM.view fx (ix3 (⟨4 * s.val + i.val, by omega⟩ : Fin 32) p n) := by
  show View.read (Elt F) xM.view fx ((Rect.unit (s := S32x2048x256) ![4 * s.val, 0, 0] S4x2048x256.size (inb_xstep s)).emb (ix3 i p n)) = _
  refine congrArg _ (Rect.emb_eq_of_coords _ _ _ fun a => ?_)
  match a with
  | ⟨0, _⟩ => show 4 * s.val + i.val = 4 * s.val + 1 * i.val; omega
  | ⟨1, _⟩ => show p.val = 0 + 1 * p.val; omega
  | ⟨2, _⟩ => show n.val = 0 + 1 * n.val; omega

/-- Batch `b` of the input, in the layout the kernel loads it with. -/
def xBatch (b : Fin 32) : Vec F S1x1x2048x256 .f32 :=
  fun y => View.read (Elt F) xM.view fx (ix3 b (show Fin 2048 from y 2) (show Fin 256 from y 3))

/-- A load of a batch after its step's copy has arrived reads that batch of the input. -/
theorem xLoad_xArr (σ : Fin 2) (s : Fin 8) (i : Fin 4) :
    xLoad c σ (xArr c fx σ s fxb) i = xBatch c fx ⟨4 * s.val + i.val, by omega⟩ := by
  funext y
  have e : (Rect.unit (s := S2x4x2048x256) ![σ.val, i.val, 0, 0] S1x1x2048x256.size (inb_xload σ i)).emb y
      = (Rect.unit (s := S2x4x2048x256) ![σ.val, 0, 0, 0] S1x4x2048x256.size (inb_xslot σ)).emb
          (Shape.reshapeEquiv (s := S1x4x2048x256) (s' := S4x2048x256) squeezes_S1x4x2048x256_S4x2048x256.numel_eq
            (ix3 i (show Fin 2048 from y 2) (show Fin 256 from y 3))) := by
    refine Rect.emb_eq_of_coords _ _ _ fun a => ?_
    rw [reshapeEquiv_ix3_1abc]
    have h0 : (y 0).val < 1 := (y 0).isLt
    have h1 : (y 1).val < 1 := (y 1).isLt
    match a with
    | ⟨0, _⟩ => show σ.val + 1 * 0 = σ.val + 1 * (y 0).val; omega
    | ⟨1, _⟩ => show 0 + 1 * i.val = i.val + 1 * (y 1).val; omega
    | ⟨2, _⟩ => rfl
    | ⟨3, _⟩ => rfl
  show View.read (Elt F) xbM.view (xArr c fx σ s fxb) ((Rect.unit (s := S2x4x2048x256) ![σ.val, i.val, 0, 0] S1x1x2048x256.size (inb_xload σ i)).emb y) = _
  rw [e]
  refine (congrFun (View.read_write_univ (v := (xSlot σ).view) fxb (xStep c fx s)) _).trans ?_
  exact xStep_apply c fx s i _ _

/-- The slot `σ` of the output buffer, as a copy's source. -/
abbrev oSlot (σ : Fin 2) : Memref sig .tc .vmem S4x1024x256 .f32 :=
  (obM.slice (Rect.unit (s := S2x4x1024x256) ![σ.val, 0, 0, 0] S1x4x1024x256.size (inb_oslot σ)) (fun _ => rfl)).squeeze
    S4x1024x256 squeezes_S1x4x1024x256_S4x1024x256

/-- The output element at row `r`, column `n` of the batch `x`. -/
def outAt (g : Vec F S1024x2048 .f32) (rsb : Fin 4 → Vec F S256x256 .f32) (be : Fin 4 → Elt F .f32)
    (x : Vec F S1x1x2048x256 .f32) (r : Fin 1024) (n : Fin 256) : Elt F .f32 :=
  outPiece g rsb be ⟨r.val / 256, by omega⟩ x (ix4 (0 : Fin 1) (0 : Fin 1) (⟨r.val % 256, Nat.mod_lt _ (by decide)⟩ : Fin 256) n)

/-- A slot read after a step's sixteen stores holds that step's output elements, whatever it held before. -/
theorem oSlot_read (g : Vec F S1024x2048 .f32) (rsb : Fin 4 → Vec F S256x256 .f32) (be : Fin 4 → Elt F .f32)
    (σ : Fin 2) (x : Fin 4 → Vec F S1x1x2048x256 .f32) (L : List (View.Piece (Elt F) S2x4x1024x256 .f32))
    (i : Fin 4) (r : Fin 1024) (n : Fin 256) :
    View.read (Elt F) (oSlot σ).view (obM.view.writes (Elt F) fob (stepPieces g rsb be σ x ++ L)) (ix3 i r n)
      = outAt g rsb be (x i) r n := by
  have e : (Rect.unit (s := S2x4x1024x256) ![σ.val, 0, 0, 0] S1x4x1024x256.size (inb_oslot σ)).emb
          (Shape.reshapeEquiv (s := S1x4x1024x256) (s' := S4x1024x256) squeezes_S1x4x1024x256_S4x1024x256.numel_eq (ix3 i r n))
      = ix4 σ i r n := by
    refine Rect.emb_eq_of_coords _ _ _ fun a => ?_
    rw [reshapeEquiv_ix3_1abc]
    match a with
    | ⟨0, _⟩ => show σ.val = σ.val + 1 * 0; omega
    | ⟨1, _⟩ => show i.val = 0 + 1 * i.val; omega
    | ⟨2, _⟩ => show r.val = 0 + 1 * r.val; omega
    | ⟨3, _⟩ => show n.val = 0 + 1 * n.val; omega
  show View.read (Elt F) obM.view _ ((Rect.unit (s := S2x4x1024x256) ![σ.val, 0, 0, 0] S1x4x1024x256.size (inb_oslot σ)).emb
          (Shape.reshapeEquiv (s := S1x4x1024x256) (s' := S4x1024x256) squeezes_S1x4x1024x256_S4x1024x256.numel_eq (ix3 i r n))) = _
  rw [e, View.writes_append]
  refine View.read_writes_apply_of_pieces obM.view _
    (fun y => outAt g rsb be (x (show Fin 4 from y 1)) (show Fin 1024 from y 2) (show Fin 256 from y 3)) _ ?_ _ ?_
  · intro p hp z
    obtain ⟨i, _, hp⟩ := List.mem_flatMap.mp hp
    obtain ⟨l, _, rfl⟩ := List.mem_map.mp hp
    have h0 : (z 0).val < 1 := (z 0).isLt
    have h1 : (z 1).val < 1 := (z 1).isLt
    have h2 : (z 2).val < 256 := (z 2).isLt
    have ei : (show Fin 4 from (Rect.unit (s := S2x4x1024x256) ![σ.val, i.val, 256 * l.val, 0] S1x1x256x256.size (inb_piece σ i l)).emb z 1) = i :=
      Fin.ext (show i.val + 1 * (z 1).val = i.val by omega)
    have el : (⟨(256 * l.val + 1 * (z 2).val) / 256, by omega⟩ : Fin 4) = l := Fin.ext (show (256 * l.val + 1 * (z 2).val) / 256 = l.val by omega)
    have ez : (ix4 (0 : Fin 1) (0 : Fin 1) (⟨(256 * l.val + 1 * (z 2).val) % 256, Nat.mod_lt _ (by decide)⟩ : Fin 256)
        (show Fin 256 from (Rect.unit (s := S2x4x1024x256) ![σ.val, i.val, 256 * l.val, 0] S1x1x256x256.size (inb_piece σ i l)).emb z 3) : S1x1x256x256.Idx) = z := by
      funext a
      refine Fin.ext ?_
      match a with
      | ⟨0, _⟩ => show 0 = (z 0).val; omega
      | ⟨1, _⟩ => show 0 = (z 1).val; omega
      | ⟨2, _⟩ => show (256 * l.val + 1 * (z 2).val) % 256 = (z 2).val; omega
      | ⟨3, _⟩ => show 0 + 1 * (z 3).val = (z 3).val; omega
    show outPiece g rsb be l (x i) z = outPiece g rsb be (⟨(256 * l.val + 1 * (z 2).val) / 256, by omega⟩ : Fin 4) (x _) _
    rw [ei, el]
    exact congrArg (outPiece g rsb be l (x i)) ez.symm
  · refine ⟨_, List.mem_flatMap.mpr ⟨i, by fin_cases i <;> decide, List.mem_map.mpr ⟨⟨r.val / 256, by omega⟩, ?_, rfl⟩⟩, ?_⟩
    · generalize (⟨r.val / 256, by omega⟩ : Fin 4) = l
      fin_cases l <;> decide
    · refine (Rect.mem_set_unit (inb := inb_piece σ i ⟨r.val / 256, by omega⟩)).mpr fun a => ?_
      match a with
      | ⟨0, _⟩ => show σ.val ≤ σ.val ∧ σ.val < σ.val + 1; omega
      | ⟨1, _⟩ => show i.val ≤ i.val ∧ i.val < i.val + 1; omega
      | ⟨2, _⟩ => show 256 * (r.val / 256) ≤ r.val ∧ r.val < 256 * (r.val / 256) + 256; omega
      | ⟨3, _⟩ => show 0 ≤ n.val ∧ n.val < 0 + 256; omega

/-- What the kernel leaves in its result, element by element, from what its operands held. -/
def outSpec : S32x1024x256.Idx → Elt F .f32 := fun y =>
  outAt (gV c a1 a2 f1 f2) (rsV c a1 a2 f1 f2) (beV c a0 f0) (xBatch c fx (show Fin 32 from y 0)) (show Fin 1024 from y 1) (show Fin 256 from y 2)

/-- The four batches of a step lie in the result. -/
theorem inb_ostep (s : Fin 8) :
    ∀ a, (![4 * s.val, 0, 0] : Fin 3 → ℕ) a + S4x1024x256.size a ≤ S32x1024x256.size a := by
  intro a
  match a with
  | ⟨0, _⟩ => show 4 * s.val + 4 ≤ 32; omega
  | ⟨1, _⟩ => show 0 + 1024 ≤ 1024; omega
  | ⟨2, _⟩ => show 0 + 256 ≤ 256; omega

/-- What step `s` copies out of its slot is its four batches of the result. -/
theorem step_out (σ : Fin 2) (s : Fin 8) (L : List (View.Piece (Elt F) S2x4x1024x256 .f32)) (H : List (View.Piece (Elt F) S2x4x1024x256 .f32))
    (hH : H = stepPieces (gV c a1 a2 f1 f2) (rsV c a1 a2 f1 f2) (beV c a0 f0) σ (xLoad c σ (xArr c fx σ s fxb)) ++ L)
    (z : S4x1024x256.Idx) :
    ReadAs.same.apply (View.read (Elt F) (oSlot σ).view (obM.view.writes (Elt F) fob H)) z
      = outSpec c a0 a1 a2 f0 f1 f2 fx ((Rect.unit (s := S32x1024x256) ![4 * s.val, 0, 0] S4x1024x256.size (inb_ostep s)).emb z) := by
  subst hH
  have ez : (ix3 (show Fin 4 from z 0) (show Fin 1024 from z 1) (show Fin 256 from z 2) : S4x1024x256.Idx) = z := by
    funext a
    match a with
    | ⟨0, _⟩ => rfl
    | ⟨1, _⟩ => rfl
    | ⟨2, _⟩ => rfl
  have e0 : ((Rect.unit (s := S32x1024x256) ![4 * s.val, 0, 0] S4x1024x256.size (inb_ostep s)).emb z : S32x1024x256.Idx)
      = ix3 (⟨4 * s.val + (show Fin 4 from z 0).val, by omega⟩ : Fin 32) (show Fin 1024 from z 1) (show Fin 256 from z 2) := by
    refine Rect.emb_eq_of_coords _ _ _ fun a => ?_
    match a with
    | ⟨0, _⟩ => show 4 * s.val + (z 0).val = 4 * s.val + 1 * (z 0).val; omega
    | ⟨1, _⟩ => show (z 1).val = 0 + 1 * (z 1).val; omega
    | ⟨2, _⟩ => show (z 2).val = 0 + 1 * (z 2).val; omega
  rw [e0]
  conv_lhs => rw [← ez]
  refine (oSlot_read c fob _ _ _ σ _ L _ _ _).trans ?_
  rw [xLoad_xArr]
  rfl

end

/-- The kernel's result is `outSpec` of its operands, whatever its scratch buffers and its result held before. -/
theorem kernelRun_val (c : Dev nD) (a0 : Memref sig .tc .smem S4 .f32) (ha0 : a0.IsWhole)
    (a1 : Memref sig .tc .vmem S256x256 .f32) (ha1 : a1.IsWhole) (a2 : Memref sig .tc .smem S4x8 .f32) (ha2 : a2.IsWhole)
    (f0 : HbBuf (F := F) c a0) (f1 : HbBuf (F := F) c a1) (f2 : HbBuf (F := F) c a2)
    (fx : HbBuf (F := F) c xM) (fo : HbBuf (F := F) c oM)
    (fg : HbBuf (F := F) c gM) (fr : HbBuf (F := F) c rsM)
    (fxb0 fxb1 : HbBuf (F := F) c xbM) (fob0 fob1 : HbBuf (F := F) c obM) (y : S32x1024x256.Idx) :
    View.read (Elt F) oM.view (kernelRun c a0 ha0 a1 ha1 a2 ha2 f0 f1 f2 fx fo fg fr fxb0 fxb1 fob0 fob1).val y
      = outSpec c a0 a1 a2 f0 f1 f2 fx y := by
  unfold kernelRun
  dsimp only
  refine View.read_writes_apply_of_pieces oM.view fo (outSpec c a0 a1 a2 f0 f1 f2 fx) _ ?_ y ?_
  · simp only [List.forall_mem_cons]
    refine ⟨?_, ?_, ?_, ?_, ?_, ?_, ?_, ?_, fun _ h => absurd h List.not_mem_nil⟩
    · exact step_out c a0 a1 a2 f0 f1 f2 fx _ fob1 1 7 _ _ (ob1_64 ..)
    · exact step_out c a0 a1 a2 f0 f1 f2 fx _ fob0 0 6 _ _ (ob0_64 ..)
    · exact step_out c a0 a1 a2 f0 f1 f2 fx _ fob1 1 5 _ _ (ob1_48 ..)
    · exact step_out c a0 a1 a2 f0 f1 f2 fx _ fob0 0 4 _ _ (ob0_48 ..)
    · exact step_out c a0 a1 a2 f0 f1 f2 fx _ fob1 1 3 _ _ (ob1_32 ..)
    · exact step_out c a0 a1 a2 f0 f1 f2 fx _ fob0 0 2 _ _ (ob0_32 ..)
    · exact step_out c a0 a1 a2 f0 f1 f2 fx _ fob1 1 1 _ _ (ob1_16 ..)
    · exact step_out c a0 a1 a2 f0 f1 f2 fx _ fob0 0 0 _ _ (ob0_16 ..)
  · refine View.cover_of_tiledL (s := S32x1024x256) _ S4x1024x256.size (by sl_kernel_rfl) y

end Cert.KernelIdeal.Hand
end
-- ==== Proof.KernelTable.lean ====
module

public import proofs.«01_k».proof.Proof.KernelSpec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

/-- The kernel's powers of the basis matrix: entry `n` is the power `n + 1`, by the kernel's product tree. -/
def powW (w : Vec F S256x256 .f32) : Fin 11 → Vec F S256x256 .f32 :=
  ![w, k0_pay1 w, k0_pay2 w, k0_pay3 w, k0_pay4 w, k0_pay5 w, k0_pay6 w, k0_pay7 w, k0_pay8 w, k0_pay9 w, k0_pay10 w]

/-- Block `(l, k)` of the table: the encoder weight times its power. -/
def gBlock (w : Vec F S256x256 .f32) (we : Fin 4 → Fin 8 → Elt F .f32) (l : Fin 4) (k : Fin 8) : Vec F S256x256 .f32 :=
  mulf (broadcast S256x256 (we l k)) (powW w ⟨7 - k.val + l.val, by omega⟩)

/-- Block `(l, k)` lies in the table. -/
theorem inb_gblock (l : Fin 4) (k : Fin 8) :
    ∀ a, (![256 * l.val, 256 * k.val] : Fin 2 → ℕ) a + S256x256.size a ≤ S1024x2048.size a := by
  intro a
  match a with
  | ⟨0, _⟩ => show 256 * l.val + 256 ≤ 1024; omega
  | ⟨1, _⟩ => show 256 * k.val + 256 ≤ 2048; omega

/-- The thirty-two stores of the table, the latest first. -/
def gPieces (w : Vec F S256x256 .f32) (we : Fin 4 → Fin 8 → Elt F .f32) : List (View.Piece (Elt F) S1024x2048 .f32) :=
  ([3, 2, 1, 0] : List (Fin 4)).flatMap fun l => ([7, 6, 5, 4, 3, 2, 1, 0] : List (Fin 8)).map fun k =>
    ⟨Rect.unit (s := S1024x2048) ![256 * l.val, 256 * k.val] S256x256.size (inb_gblock l k),
      shapeCast S256x256 (gBlock w we l k) shapeCasts_S256x256_S256x256⟩

/-- The table, element by element. -/
def gTab (w : Vec F S256x256 .f32) (we : Fin 4 → Fin 8 → Elt F .f32) : Vec F S1024x2048 .f32 := fun y =>
  gBlock w we ⟨(y 0).val / 256, Nat.div_lt_of_lt_mul (y 0).isLt⟩ ⟨(y 1).val / 256, Nat.div_lt_of_lt_mul (y 1).isLt⟩
    (ix2 (⟨(y 0).val % 256, Nat.mod_lt _ (by decide)⟩ : Fin 256) (⟨(y 1).val % 256, Nat.mod_lt _ (by decide)⟩ : Fin 256))

/-- Block `l` of the row-sum table of `g`. -/
def rsTab (g : Vec F S1024x2048 .f32) (l : Fin 4) : Vec F S256x256 .f32 := fun y =>
  k0_pay46 g (ix2 (⟨256 * l.val + (y 0).val, by have h : (y 0).val < 256 := (y 0).isLt; omega⟩ : Fin 1024) (show Fin 256 from y 1))

/-- The kernel's result from its operands' values: the biases, the basis matrix, the encoder weights, the input. -/
def outVal (be : Vec F S4 .f32) (w : Vec F S256x256 .f32) (we : Vec F S4x8 .f32) (x : S32x2048x256.Idx → Elt F .f32) :
    S32x1024x256.Idx → Elt F .f32 := fun y =>
  outAt (gTab w fun l k => we (ix2 l k)) (rsTab (gTab w fun l k => we (ix2 l k))) (fun l => be (ix1 l))
    (fun z => x (ix3 (show Fin 32 from y 0) (show Fin 2048 from z 2) (show Fin 256 from z 3))) (show Fin 1024 from y 1) (show Fin 256 from y 2)

section
variable (c : Dev nD) (a0 : Memref sig .tc .smem S4 .f32)
    (a1 : Memref sig .tc .vmem S256x256 .f32) (a2 : Memref sig .tc .smem S4x8 .f32)
    (f0 : HbBuf (F := F) c a0) (f1 : HbBuf (F := F) c a1) (f2 : HbBuf (F := F) c a2) (fx : HbBuf (F := F) c xM)

/-- Each encoder weight lies in the weights. -/
theorem inb_wenc (l : Fin 4) (k : Fin 8) : ∀ a, (![l.val, k.val] : Fin 2 → ℕ) a + S1x1.size a ≤ S4x8.size a := by
  intro a
  match a with
  | ⟨0, _⟩ => show l.val + 1 ≤ 4; omega
  | ⟨1, _⟩ => show k.val + 1 ≤ 8; omega

/-- The blocks that the run stores in the table are those of the base matrix and the encoder weights. -/
theorem gPieces_eq : kernelRun.sl.Hg_32 c a1 a2 f1 f2 =
    gPieces (View.readAt (Elt F) a1.view (Rect.unit (s := S256x256) ![0, 0] S256x256.size inb_S256x256_S256x256_0_0).toLoadRect f1)
      (fun l k => View.readAt (Elt F) a2.view (Rect.unit (s := S4x8) ![l.val, k.val] S1x1.size (inb_wenc l k)).toLoadRect f2
        (Shape.Idx.first (show 0 < S1x1.numel by decide))) := rfl

/-- The load of the base matrix reads the whole of it. -/
theorem w_load : View.readAt (Elt F) a1.view (Rect.unit (s := S256x256) ![0, 0] S256x256.size inb_S256x256_S256x256_0_0).toLoadRect f1
    = View.read (Elt F) a1.view f1 := by
  funext y
  show View.read (Elt F) a1.view f1 ((Rect.unit (s := S256x256) ![0, 0] S256x256.size inb_S256x256_S256x256_0_0).emb y) = _
  refine congrArg _ (Rect.emb_eq_of_coords _ _ _ fun a => ?_)
  match a with
  | ⟨0, _⟩ => show (y 0).val = 0 + 1 * (y 0).val; omega
  | ⟨1, _⟩ => show (y 1).val = 0 + 1 * (y 1).val; omega

/-- The load of encoder weight `(l, k)` reads it. -/
theorem we_load (l : Fin 4) (k : Fin 8) :
    View.readAt (Elt F) a2.view (Rect.unit (s := S4x8) ![l.val, k.val] S1x1.size (inb_wenc l k)).toLoadRect f2
        (Shape.Idx.first (show 0 < S1x1.numel by decide)) = View.read (Elt F) a2.view f2 (ix2 l k) := by
  show View.read (Elt F) a2.view f2 ((Rect.unit (s := S4x8) ![l.val, k.val] S1x1.size (inb_wenc l k)).emb (Shape.Idx.first (show 0 < S1x1.numel by decide))) = _
  refine congrArg _ (Rect.emb_eq_of_coords _ _ _ fun a => ?_)
  match a with
  | ⟨0, _⟩ => show l.val = l.val + 1 * ((Shape.Idx.first (show 0 < S1x1.numel by decide)) 0).val; have : ((Shape.Idx.first (show 0 < S1x1.numel by decide)) (0 : Fin 2)).val < 1 := Fin.isLt _; omega
  | ⟨1, _⟩ => show k.val = k.val + 1 * ((Shape.Idx.first (show 0 < S1x1.numel by decide)) 1).val; have : ((Shape.Idx.first (show 0 < S1x1.numel by decide)) (1 : Fin 2)).val < 1 := Fin.isLt _; omega

/-- The load of offset `l` reads it. -/
theorem be_load (l : Fin 4) : beV c a0 f0 l = View.read (Elt F) a0.view f0 (ix1 l) := by
  show View.read (Elt F) a0.view f0 ((Rect.unit (s := S4) ![l.val] S1.size (inb_benc l)).emb (Shape.Idx.first (show 0 < S1.numel by decide))) = _
  refine congrArg _ (Rect.emb_eq_of_coords _ _ _ fun a => ?_)
  match a with
  | ⟨0, _⟩ => show l.val = l.val + 1 * ((Shape.Idx.first (show 0 < S1.numel by decide)) 0).val; have : ((Shape.Idx.first (show 0 < S1.numel by decide)) (0 : Fin 1)).val < 1 := Fin.isLt _; omega

/-- The table the kernel loads back is the table of its weights and powers. -/
theorem gV_eq : gV c a1 a2 f1 f2 = gTab (View.read (Elt F) a1.view f1) (fun l k => View.read (Elt F) a2.view f2 (ix2 l k)) := by
  unfold gV kernelRun.sl.v213 View.readCov
  rw [gPieces_eq, w_load, funext fun l => funext fun k => we_load c a2 f2 l k]
  generalize View.read (Elt F) a1.view f1 = w
  generalize (fun (l : Fin 4) (k : Fin 8) => View.read (Elt F) a2.view f2 (ix2 l k)) = we
  funext y
  have ey : (Rect.unit (s := S1024x2048) ![0, 0] S1024x2048.size inb_S1024x2048_S1024x2048_0_0).emb y = y := by
    refine Rect.emb_eq_of_coords _ _ _ fun a => ?_
    match a with
    | ⟨0, _⟩ => show (y 0).val = 0 + 1 * (y 0).val; omega
    | ⟨1, _⟩ => show (y 1).val = 0 + 1 * (y 1).val; omega
  show View.read (Elt F) gM.view _ ((Rect.unit (s := S1024x2048) ![0, 0] S1024x2048.size inb_S1024x2048_S1024x2048_0_0).emb y) = _
  rw [ey]
  have hy0 : (y 0).val < 1024 := (y 0).isLt
  have hy1 : (y 1).val < 2048 := (y 1).isLt
  refine View.read_writes_apply_of_pieces gM.view _ (gTab w we) _ ?_ _ ?_
  · intro p hp z
    obtain ⟨l, _, hp⟩ := List.mem_flatMap.mp hp
    obtain ⟨k, _, rfl⟩ := List.mem_map.mp hp
    have h0 : (z 0).val < 256 := (z 0).isLt
    have h1 : (z 1).val < 256 := (z 1).isLt
    have el : (⟨(256 * l.val + 1 * (z 0).val) / 256, by omega⟩ : Fin 4) = l := Fin.ext (show (256 * l.val + 1 * (z 0).val) / 256 = l.val by omega)
    have ek : (⟨(256 * k.val + 1 * (z 1).val) / 256, by omega⟩ : Fin 8) = k := Fin.ext (show (256 * k.val + 1 * (z 1).val) / 256 = k.val by omega)
    have ez : (ix2 (⟨(256 * l.val + 1 * (z 0).val) % 256, Nat.mod_lt _ (by decide)⟩ : Fin 256)
        (⟨(256 * k.val + 1 * (z 1).val) % 256, Nat.mod_lt _ (by decide)⟩ : Fin 256) : S256x256.Idx) = z := by
      funext a
      refine Fin.ext ?_
      match a with
      | ⟨0, _⟩ => show (256 * l.val + 1 * (z 0).val) % 256 = (z 0).val; omega
      | ⟨1, _⟩ => show (256 * k.val + 1 * (z 1).val) % 256 = (z 1).val; omega
    show shapeCast S256x256 (gBlock w we l k) shapeCasts_S256x256_S256x256 z
      = gBlock w we (⟨(256 * l.val + 1 * (z 0).val) / 256, by omega⟩ : Fin 4) (⟨(256 * k.val + 1 * (z 1).val) / 256, by omega⟩ : Fin 8)
        (ix2 (⟨(256 * l.val + 1 * (z 0).val) % 256, Nat.mod_lt _ (by decide)⟩ : Fin 256) (⟨(256 * k.val + 1 * (z 1).val) % 256, Nat.mod_lt _ (by decide)⟩ : Fin 256))
    rw [el, ek]
    exact (shapeCast_apply _ _ z z rfl).trans (congrArg (gBlock w we l k) ez.symm)
  · have hl : (y 0).val / 256 < 4 := by omega
    have hk : (y 1).val / 256 < 8 := by omega
    refine ⟨_, List.mem_flatMap.mpr ⟨⟨(y 0).val / 256, hl⟩, ?_, List.mem_map.mpr ⟨⟨(y 1).val / 256, hk⟩, ?_, rfl⟩⟩, ?_⟩
    · generalize (⟨(y 0).val / 256, hl⟩ : Fin 4) = l
      fin_cases l <;> decide
    · generalize (⟨(y 1).val / 256, hk⟩ : Fin 8) = l
      fin_cases l <;> decide
    · refine (Rect.mem_set_unit (inb := inb_gblock ⟨(y 0).val / 256, hl⟩ ⟨(y 1).val / 256, hk⟩)).mpr fun a => ?_
      match a with
      | ⟨0, _⟩ => show 256 * ((y 0).val / 256) ≤ (y 0).val ∧ (y 0).val < 256 * ((y 0).val / 256) + 256; omega
      | ⟨1, _⟩ => show 256 * ((y 1).val / 256) ≤ (y 1).val ∧ (y 1).val < 256 * ((y 1).val / 256) + 256; omega

/-- The buffer of row sums lies in itself. -/
theorem inb_rs0 : ∀ a, (![0, 0] : Fin 2 → ℕ) a + S1024x256.size a ≤ S1024x256.size a := inb_S1024x256_S1024x256_0_0

/-- A block loaded back from a buffer stored whole is that block of what was stored. -/
theorem rsLoad (T : Vec F S1024x256 .f32) (l : Fin 4) (y : S256x256.Idx) :
    rsM.view.readCov [(⟨Rect.unit (s := S1024x256) ![0, 0] S1024x256.size inb_rs0, shapeCast S1024x256 T shapeCasts_S1024x256_S1024x256⟩ : View.Piece (Elt F) S1024x256 .f32)]
        (Rect.unit (s := S1024x256) ![256 * l.val, 0] S256x256.size (inb_rsblk l)).toLoadRect y
      = T (ix2 (⟨256 * l.val + (y 0).val, by have h : (y 0).val < 256 := (y 0).isLt; omega⟩ : Fin 1024) (show Fin 256 from y 1)) := by
  have h0 : (y 0).val < 256 := (y 0).isLt
  refine (View.read_writes_cons_hit_of_coords rsM.view rsM.view.junk (Rect.unit (s := S1024x256) ![0, 0] S1024x256.size inb_rs0)
    (shapeCast S1024x256 T shapeCasts_S1024x256_S1024x256) []
    (ix2 (⟨256 * l.val + (y 0).val, by omega⟩ : Fin 1024) (show Fin 256 from y 1))
    ((Rect.unit (s := S1024x256) ![256 * l.val, 0] S256x256.size (inb_rsblk l)).emb y) fun a => ?_).trans (shapeCast_apply _ _ _ _ rfl)
  match a with
  | ⟨0, _⟩ => show 256 * l.val + 1 * (y 0).val = 0 + 1 * (256 * l.val + (y 0).val); omega
  | ⟨1, _⟩ => show 0 + 1 * (y 1).val = 0 + 1 * (y 1).val; omega

/-- A block of the row-sum table loaded back. -/
theorem rsV_eq (l : Fin 4) : rsV c a1 a2 f1 f2 l = rsTab (gV c a1 a2 f1 f2) l := by
  unfold rsV kernelRun.sl.Hr_1 kernelRun.sl.r_46 k0_pay47
  exact funext fun y => rsLoad (k0_pay46 (gV c a1 a2 f1 f2)) l y

/-- `outSpec` as a function of the operands' values alone. -/
theorem outSpec_eq : outSpec c a0 a1 a2 f0 f1 f2 fx
    = outVal (View.read (Elt F) a0.view f0) (View.read (Elt F) a1.view f1) (View.read (Elt F) a2.view f2) (View.read (Elt F) xM.view fx) := by
  funext y
  unfold outSpec
  rw [funext fun l => rsV_eq c a1 a2 f1 f2 l, gV_eq, funext fun l => be_load c a0 f0 l]
  rfl

end

end Cert.KernelIdeal.Hand
end
-- ==== Proof.KernelFrame.lean ====
module

public import proofs.«01_k».proof.Proof.KernelTable

@[expose] public section

set_option maxRecDepth 16384

noncomputable section

namespace Cert.KernelIdeal.Hand

open Cert.KernelIdeal
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The one unscoped buffer the body writes itself: the result left in HBM. -/
def R0 : Finset (Ref sig .tc) := {main_v0}

/-- The unscoped buffer the body's copies read. -/
def H0 : Finset (Ref sig .tc) := {main_arg0}

/-- Core `c`'s buffers as the region finds them. -/
abbrev V (c : Dev nD) (b : Ref sig .tc) : Buf (Elt F) ((c : Thread nD τ).loc b) := m ((c : Thread nD τ).loc b)

/-- The program is the one region, entered with the buffers as launched. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The value the kernel leaves in its result on core `c`, from the launch memory. -/
def result (c : Dev nD) : S32x1024x256.Idx → Elt F .f32 :=
  outVal (m ((c : Thread nD τ).loc main_arg6)) (m ((c : Thread nD τ).loc main_arg4)) (m ((c : Thread nD τ).loc main_arg5)) (m ((c : Thread nD τ).loc main_arg0))

/-- The final contents of the unscoped buffers: the result at its value, every other one as launched. -/
def G (c : Dev nD) : (b : Ref sig .tc) → Buf (Elt F) ((c : Thread nD τ).loc b) :=
  Function.update (V m c) main_v0 (result m c)

/-- The final contents of the result are its value. -/
theorem G_v0 (c : Dev nD) : G m c main_v0 = result m c := Function.update_self _ _ _

/-- The body's four semaphores, two for its input copies and two for its output copies. -/
abbrev osem0 : Fin 4 → SemLoc sig := fun j => (![SemLoc.dma 3, SemLoc.dma 4, SemLoc.dma 5, SemLoc.dma 6] : Fin 4 → SemLoc sig) j
/-- The body's four semaphores are its own and distinct. -/
theorem ownSemFacts0 : Pipeline.OwnSemFacts spec0 osem0 := by decide
/-- The body's semaphores at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0) := by
  rw [Pipeline.ownSems0_eq_of_list c osem0 [0, 1, 2, 3] (by decide) (by decide)]; rfl
/-- The series' buffer is none of the staged ones. -/
theorem H0_sub : H0 ⊆ Pipeline.restRefs sig spec0 := by decide
/-- The body's read-only holding is the series as launched. -/
theorem hbmPts0_eq (c : Dev nD) :
    (bigSep H0 (fun b => ((c : Thread nD τ).loc b) ↦{fullShare} V m c b) : sProp 𝕄) = hbPt c xM (V m c main_arg0) := by
  rw [BI.bigSep_eq_bigSepL_of_eq [main_arg0] (by decide) (by decide)]; rfl
/-- The result's buffer is neither staged nor read-only. -/
theorem R0_sub : R0 ⊆ Pipeline.restRefs sig spec0 \ H0 := by decide
/-- The body's written holding is the result. -/
theorem routed0_eq (c : Dev nD) (W : (b : Ref sig .tc) → Buf (Elt F) ((c : Thread nD τ).loc b)) :
    (Pipeline.routed R0 c W : sProp 𝕄) = hbPt c oM (W main_v0) := by
  unfold Pipeline.routed; rw [BI.bigSep_eq_bigSepL_of_eq [main_v0] (by decide) (by decide)]; rfl

/-- The body's holdings, with the result at the contents `W`. -/
def Inv (c : Dev nD) (W : (b : Ref sig .tc) → Buf (Elt F) ((c : Thread nD τ).loc b)) : sProp 𝕄 :=
  iprop(iprop((∃ f, hbPt c gM f) ∗ (∃ f, hbPt c rsM f) ∗ (∃ f, hbPt c xbM f) ∗ (∃ f, hbPt c obM f))
    ∗ (∃ r, prngReg c r)
    ∗ iprop(semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0)
    ∗ hbPt c xM (V m c main_arg0) ∗ hbPt c oM (W main_v0))

/-- What the launch hands the body is the body's holdings. -/
theorem PhiDRG0_eq (c : Dev nD) (W : (c : Dev nD) → (b : Ref sig .tc) → Buf (Elt F) ((c : Thread nD τ).loc b)) :
    (Pipeline.ΦDRG osem0 spec0 H0 R0 (V m) W c : sProp 𝕄) = Inv m c (W c) := by
  rw [Pipeline.ΦDRG_eq, scopedRest0_eq, ownSems00_eq, hbmPts0_eq, routed0_eq]; rfl

/-- Window `w`'s block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data of the one pipeline on core `c`: the arrays as found, each staged block kept, the invariant moving the
    result from its launch contents to its final ones. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ p := Inv m c (if p = 0 then V m c else G m c)
  q _ := fullShare
  owed _ := 0

/-- The proof data takes each staged array as launched. -/
theorem A_eq (c : Dev nD) (w : Fin cfg0.W) : (dats m 0 c).A w = V m c (Pipeline.arrRef spec0 w) := by
  dsimp only [dats]

/-- Before the body each staged operand holds its block as launched. -/
theorem before_eq (c : Dev nD) (t : Fin cfg0.N) : (∀ d, (dats m 0 c).before 0 t d = iblk m c 0 t)
    ∧ (∀ d, (dats m 0 c).before 1 t d = iblk m c 1 t) ∧ (∀ d, (dats m 0 c).before 2 t d = iblk m c 2 t) :=
  ⟨fun d => ((dats m 0 c).before_in_eq_fetched 0 rfl (fun _ => rfl) (fun _ _ _ => rfl) (fun t => by dsimp only [dats]; unfold Dat.blockOf iblk; rfl) t d).trans (by unfold Dat.fetched Dat.blockOf iblk; rfl),
   fun d => ((dats m 0 c).before_in_eq_fetched 1 rfl (fun _ => rfl) (fun _ _ _ => rfl) (fun t => by dsimp only [dats]; unfold Dat.blockOf iblk; rfl) t d).trans (by unfold Dat.fetched Dat.blockOf iblk; rfl),
   fun d => ((dats m 0 c).before_in_eq_fetched 2 rfl (fun _ => rfl) (fun _ _ _ => rfl) (fun t => by dsimp only [dats]; unfold Dat.blockOf iblk; rfl) t d).trans (by unfold Dat.fetched Dat.blockOf iblk; rfl)⟩

/-! ## The two slots of a double buffer -/

/-- The two slots make up the input buffer. -/
theorem xb_cover : (Finset.univ : Finset S2x4x2048x256.Idx) = xbR0.set ∪ xbR1.set := by
  ext y
  have h : (y 0).val < 2 := (y 0).isLt
  simp only [Finset.mem_univ, Finset.mem_union, true_iff, xbR0, xbR1, Rect.mem_set_unit]
  rcases (by omega : (y 0).val = 0 ∨ (y 0).val = 1) with h | h
  · refine Or.inl fun a => ?_
    match a with
    | ⟨0, _⟩ => show 0 ≤ (y 0).val ∧ (y 0).val < 0 + 1; omega
    | ⟨1, _⟩ => exact ⟨Nat.zero_le _, by show (y 1).val < 0 + 4; have : (y 1).val < 4 := (y 1).isLt; omega⟩
    | ⟨2, _⟩ => exact ⟨Nat.zero_le _, by show (y 2).val < 0 + 2048; have : (y 2).val < 2048 := (y 2).isLt; omega⟩
    | ⟨3, _⟩ => exact ⟨Nat.zero_le _, by show (y 3).val < 0 + 256; have : (y 3).val < 256 := (y 3).isLt; omega⟩
  · refine Or.inr fun a => ?_
    match a with
    | ⟨0, _⟩ => show 1 ≤ (y 0).val ∧ (y 0).val < 1 + 1; omega
    | ⟨1, _⟩ => exact ⟨Nat.zero_le _, by show (y 1).val < 0 + 4; have : (y 1).val < 4 := (y 1).isLt; omega⟩
    | ⟨2, _⟩ => exact ⟨Nat.zero_le _, by show (y 2).val < 0 + 2048; have : (y 2).val < 2048 := (y 2).isLt; omega⟩
    | ⟨3, _⟩ => exact ⟨Nat.zero_le _, by show (y 3).val < 0 + 256; have : (y 3).val < 256 := (y 3).isLt; omega⟩

/-- The two slots make up the output buffer. -/
theorem ob_cover : (Finset.univ : Finset S2x4x1024x256.Idx) = obR0.set ∪ obR1.set := by
  ext y
  have h : (y 0).val < 2 := (y 0).isLt
  simp only [Finset.mem_univ, Finset.mem_union, true_iff, obR0, obR1, Rect.mem_set_unit]
  rcases (by omega : (y 0).val = 0 ∨ (y 0).val = 1) with h | h
  · refine Or.inl fun a => ?_
    match a with
    | ⟨0, _⟩ => show 0 ≤ (y 0).val ∧ (y 0).val < 0 + 1; omega
    | ⟨1, _⟩ => exact ⟨Nat.zero_le _, by show (y 1).val < 0 + 4; have : (y 1).val < 4 := (y 1).isLt; omega⟩
    | ⟨2, _⟩ => exact ⟨Nat.zero_le _, by show (y 2).val < 0 + 1024; have : (y 2).val < 1024 := (y 2).isLt; omega⟩
    | ⟨3, _⟩ => exact ⟨Nat.zero_le _, by show (y 3).val < 0 + 256; have : (y 3).val < 256 := (y 3).isLt; omega⟩
  · refine Or.inr fun a => ?_
    match a with
    | ⟨0, _⟩ => show 1 ≤ (y 0).val ∧ (y 0).val < 1 + 1; omega
    | ⟨1, _⟩ => exact ⟨Nat.zero_le _, by show (y 1).val < 0 + 4; have : (y 1).val < 4 := (y 1).isLt; omega⟩
    | ⟨2, _⟩ => exact ⟨Nat.zero_le _, by show (y 2).val < 0 + 1024; have : (y 2).val < 1024 := (y 2).isLt; omega⟩
    | ⟨3, _⟩ => exact ⟨Nat.zero_le _, by show (y 3).val < 0 + 256; have : (y 3).val < 256 := (y 3).isLt; omega⟩

/-- The two slots of the input buffer are disjoint. -/
theorem xb_disj : Disjoint xbR0.set xbR1.set := by
  refine Finset.disjoint_left.mpr fun y h0 h1 => ?_
  have a := (Rect.mem_set_unit.mp h0) 0
  have b := (Rect.mem_set_unit.mp h1) 0
  have a' : (y 0).val < 0 + 1 := a.2
  have b' : 1 ≤ (y 0).val := b.1
  omega

/-- The two slots of the output buffer are disjoint. -/
theorem ob_disj : Disjoint obR0.set obR1.set := by
  refine Finset.disjoint_left.mpr fun y h0 h1 => ?_
  have a := (Rect.mem_set_unit.mp h0) 0
  have b := (Rect.mem_set_unit.mp h1) 0
  have a' : (y 0).val < 0 + 1 := a.2
  have b' : 1 ≤ (y 0).val := b.1
  omega

/-- A view's elements split as its indices do. -/
theorem whole_setOn {sp : Space} {s : Shape} {e : EltTy} (v : View sig .tc sp s e) {I J : Finset s.Idx} (h : Finset.univ = I ∪ J) :
    v.set = v.setOn I ∪ v.setOn J := by
  show Finset.univ.map v.emb = I.map v.emb ∪ J.map v.emb
  rw [h, Finset.map_union]

/-- Disjoint indices have disjoint elements under a view. -/
theorem setOn_disj {sp : Space} {s : Shape} {e : EltTy} (v : View sig .tc sp s e) {I J : Finset s.Idx} (h : Disjoint I J) :
    Disjoint (v.setOn I) (v.setOn J) := (Finset.disjoint_map v.emb).mpr h

/-- The view of a whole buffer has all its elements. -/
theorem whole_set {sp : Space} {s : Shape} {e : EltTy} (M : Memref sig .tc sp s e) (h : M.IsWhole) : M.view.set = Finset.univ := h.set_eq_univ

/-- The input buffer held whole is its two slots held each. -/
theorem xb_split (c : Dev nD) (f : HbBuf (F := F) c xbM) : hbPt c xbM f ⊢ iprop(xbPt c xbR0 f ∗ xbPt c xbR1 f) := by
  have h : (Finset.univ : Finset _) = xbM.view.setOn xbR0.set ∪ xbM.view.setOn xbR1.set :=
    (whole_set xbM (Memref.isWhole_whole _)).symm.trans (whole_setOn xbM.view xb_cover)
  unfold hbPt
  rw [h]
  exact (pointsTo_union (setOn_disj xbM.view xb_disj)).1

/-- The two input slots, each with contents of its own, are the input buffer held whole. -/
theorem xb_join (c : Dev nD) (f g : HbBuf (F := F) c xbM) : iprop(xbPt c xbR0 f ∗ xbPt c xbR1 g) ⊢ iprop(∃ h, hbPt c xbM h) := by
  have h : (Finset.univ : Finset _) = xbM.view.setOn xbR0.set ∪ xbM.view.setOn xbR1.set :=
    (whole_set xbM (Memref.isWhole_whole _)).symm.trans (whole_setOn xbM.view xb_cover)
  unfold hbPt
  rw [h]
  iintro H
  iexists _
  iapply (pointsTo_join (setOn_disj xbM.view xb_disj))
  iexact H

/-- The output buffer held whole is its two slots held each. -/
theorem ob_split (c : Dev nD) (f : HbBuf (F := F) c obM) : hbPt c obM f ⊢ iprop(obPt c obR0 f ∗ obPt c obR1 f) := by
  have h : (Finset.univ : Finset _) = obM.view.setOn obR0.set ∪ obM.view.setOn obR1.set :=
    (whole_set obM (Memref.isWhole_whole _)).symm.trans (whole_setOn obM.view ob_cover)
  unfold hbPt
  rw [h]
  exact (pointsTo_union (setOn_disj obM.view ob_disj)).1

/-- The two output slots, each with contents of its own, are the output buffer held whole. -/
theorem ob_join (c : Dev nD) (f g : HbBuf (F := F) c obM) : iprop(obPt c obR0 f ∗ obPt c obR1 g) ⊢ iprop(∃ h, hbPt c obM h) := by
  have h : (Finset.univ : Finset _) = obM.view.setOn obR0.set ∪ obM.view.setOn obR1.set :=
    (whole_set obM (Memref.isWhole_whole _)).symm.trans (whole_setOn obM.view ob_cover)
  unfold hbPt
  rw [h]
  iintro H
  iexists _
  iapply (pointsTo_join (setOn_disj obM.view ob_disj))
  iexact H

/-! ## The body at its one point -/

/-- The staged offsets. -/
abbrev st0 (t : Fin cfg0.N) : Memref sig .tc .smem S4 .f32 := win0_0.stage (cfg0.slots t 0)
/-- The staged base matrix. -/
abbrev st1 (t : Fin cfg0.N) : Memref sig .tc .vmem S256x256 .f32 := win0_1.stage (cfg0.slots t 1)
/-- The staged encoder weights. -/
abbrev st2 (t : Fin cfg0.N) : Memref sig .tc .smem S4x8 .f32 := win0_2.stage (cfg0.slots t 2)

/-- Each staged operand's block is its whole argument. -/
theorem iblk0_eq (c : Dev nD) (t : Fin cfg0.N) : iblk m c 0 t = m ((c : Thread nD τ).loc main_arg6) := by
  rw [fin_N0 t]
  funext y
  refine congrArg (m ((c : Thread nD τ).loc main_arg6)) (funext fun a => Fin.ext ?_)
  match a with
  | ⟨0, _⟩ => show 0 + 1 * (y 0).val = (y 0).val; omega
/-- The staged block of the base matrix is the whole of it. -/
theorem iblk1_eq (c : Dev nD) (t : Fin cfg0.N) : iblk m c 1 t = m ((c : Thread nD τ).loc main_arg4) := by
  rw [fin_N0 t]
  funext y
  refine congrArg (m ((c : Thread nD τ).loc main_arg4)) (funext fun a => Fin.ext ?_)
  match a with
  | ⟨0, _⟩ => show 0 + 1 * (y 0).val = (y 0).val; omega
  | ⟨1, _⟩ => show 0 + 1 * (y 1).val = (y 1).val; omega
/-- The staged block of the encoder weights is the whole of them. -/
theorem iblk2_eq (c : Dev nD) (t : Fin cfg0.N) : iblk m c 2 t = m ((c : Thread nD τ).loc main_arg5) := by
  rw [fin_N0 t]
  funext y
  refine congrArg (m ((c : Thread nD τ).loc main_arg5)) (funext fun a => Fin.ext ?_)
  match a with
  | ⟨0, _⟩ => show 0 + 1 * (y 0).val = (y 0).val; omega
  | ⟨1, _⟩ => show 0 + 1 * (y 1).val = (y 1).val; omega

/-- The run's final contents of the result, from operands that hold the arguments. -/
theorem run_result (c : Dev nD) (t : Fin cfg0.N) (f0 : HbBuf (F := F) c (st0 t)) (f1 : HbBuf (F := F) c (st1 t)) (f2 : HbBuf (F := F) c (st2 t))
    (h0 : View.read (Elt F) (st0 t).view f0 = iblk m c 0 t) (h1 : View.read (Elt F) (st1 t).view f1 = iblk m c 1 t)
    (h2 : View.read (Elt F) (st2 t).view f2 = iblk m c 2 t)
    (fo : HbBuf (F := F) c oM) (fg : HbBuf (F := F) c gM) (fr : HbBuf (F := F) c rsM)
    (fxb0 fxb1 : HbBuf (F := F) c xbM) (fob0 fob1 : HbBuf (F := F) c obM) :
    (kernelRun c (st0 t) (hstage0_0 0) (st1 t) (hstage0_1 0) (st2 t) (hstage0_2 0) f0 f1 f2 (V m c main_arg0) fo fg fr fxb0 fxb1 fob0 fob1).val
      = G m c main_v0 := by
  rw [G_v0]
  funext y
  refine (kernelRun_val c (st0 t) (hstage0_0 0) (st1 t) (hstage0_1 0) (st2 t) (hstage0_2 0) f0 f1 f2 (V m c main_arg0) fo fg fr fxb0 fxb1 fob0 fob1 y).trans ?_
  rw [outSpec_eq, h0, h1, h2, iblk0_eq, iblk1_eq, iblk2_eq]
  rfl

/-- What the body starts from: its holdings and its staged operands. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d)))
/-- What the body ends with: its holdings and its staged operands, unchanged. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t))

/-- Before the one point the result is as launched. -/
theorem Phi_first (c : Dev nD) (t : Fin cfg0.N) : (dats m 0 c).Φ t.castSucc = Inv m c (V m c) := by
  rw [fin_N0 t]; rfl
/-- After the one point the result is at its value. -/
theorem Phi_last (c : Dev nD) (t : Fin cfg0.N) : (dats m 0 c).Φ t.succ = Inv m c (G m c) := by
  rw [fin_N0 t]; rfl

/-- The body, from its holdings with the result as launched to its holdings with the result at its value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_first, Phi_last, show (dats m 0 c).after 0 t = iblk m c 0 t from rfl, show (dats m 0 c).after 1 t = iblk m c 1 t from rfl,
    show (dats m 0 c).after 2 t = iblk m c 2 t from rfl]
  obtain ⟨b0, b1, b2⟩ := before_eq m c t
  simp only [b0, b1, b2]
  unfold Dat.owesAt Pipeline.owesWithin Inv
  rw [show (dats m 0 c).owed t.castSucc = 0 from rfl, show (dats m 0 c).owed t.succ = 0 from rfl]
  unfold owns
  iintro ⟨⟨⟨⟨%fg, Hg⟩, ⟨%fr, Hr⟩, ⟨%fxb, Hxb⟩, ⟨%fob, Hob⟩⟩, Hp, ⟨Hq0, Hq1, Hq2, Hq3⟩, Hx, Ho⟩, ⟨%W, -, HW⟩, ⟨%d0, %f0, %h0, H0⟩, ⟨%d1, %f1, %h1, H1⟩, ⟨%d2, %f2, %h2, H2⟩⟩
  ihave ⟨Hxb0, Hxb1⟩ := (xb_split c fxb) $$ Hxb
  ihave ⟨Hob0, Hob1⟩ := (ob_split c fob) $$ Hob
  iapply ((kernelRun c (st0 t) (hstage0_0 0) (st1 t) (hstage0_1 0) (st2 t) (hstage0_2 0) f0 f1 f2 (V m c main_arg0) (V m c main_v0) fg fr fxb fxb fob fob).2 W _)
  rw [run_result m c t f0 f1 f2 h0 h1 h2]
  isplitl [H0]; · iexact H0
  isplitl [H1]; · iexact H1
  isplitl [H2]; · iexact H2
  isplitl [Hg]
  · rw [show vwPt c gM fg = hbPt c gM fg from congrArg (fun S => (gM.view.loc (c : Thread nD τ) ↦[S]{fullShare} fg : sProp 𝕄)) (whole_set gM (Memref.isWhole_whole _))]
    iexact Hg
  isplitl [Hr]
  · rw [show vwPt c rsM fr = hbPt c rsM fr from congrArg (fun S => (rsM.view.loc (c : Thread nD τ) ↦[S]{fullShare} fr : sProp 𝕄)) (whole_set rsM (Memref.isWhole_whole _))]
    iexact Hr
  isplitl [Hxb0]; · iexact Hxb0
  isplitl [Hxb1]; · iexact Hxb1
  isplitl [Hob0]; · iexact Hob0
  isplitl [Hob1]; · iexact Hob1
  isplitl [Hq0]; · iexact Hq0
  isplitl [Hq1]; · iexact Hq1
  isplitl [Hq2]; · iexact Hq2
  isplitl [Hq3]; · iexact Hq3
  isplitl [Hx]; · iexact Hx
  isplitl [Ho]; · iexact Ho
  isplitl [HW]; · iexact HW
  iintro ⟨H0, H1, H2, ⟨%fg', Hg⟩, ⟨%fr', Hr⟩, ⟨%fxb0, Hxb0⟩, ⟨%fxb1, Hxb1⟩, ⟨%fob0, Hob0⟩, ⟨%fob1, Hob1⟩, Hq0, Hq1, Hq2, Hq3, Hx, Ho, ⟨%W', HW'⟩⟩
  ihave Hxb := (xb_join c fxb0 fxb1) $$ [Hxb0 Hxb1]
  · isplitl [Hxb0]; · iexact Hxb0
    iexact Hxb1
  ihave Hob := (ob_join c fob0 fob1) $$ [Hob0 Hob1]
  · isplitl [Hob0]; · iexact Hob0
    iexact Hob1
  isplitl [Hg Hr Hxb Hob Hp Hq0 Hq1 Hq2 Hq3 Hx Ho]
  · isplitl [Hg Hr Hxb Hob]
    · isplitl [Hg]
      · iexists fg'
        rw [← show vwPt c gM fg' = hbPt c gM fg' from congrArg (fun S => (gM.view.loc (c : Thread nD τ) ↦[S]{fullShare} fg' : sProp 𝕄)) (whole_set gM (Memref.isWhole_whole _))]
        iexact Hg
      isplitl [Hr]
      · iexists fr'
        rw [← show vwPt c rsM fr' = hbPt c rsM fr' from congrArg (fun S => (rsM.view.loc (c : Thread nD τ) ↦[S]{fullShare} fr' : sProp 𝕄)) (whole_set rsM (Memref.isWhole_whole _))]
        iexact Hr
      isplitl [Hxb]; · iexact Hxb
      iexact Hob
    isplitl [Hp]; · iexact Hp
    isplitl [Hq0 Hq1 Hq2 Hq3]
    · isplitl [Hq0]; · iexact Hq0
      isplitl [Hq1]; · iexact Hq1
      isplitl [Hq2]; · iexact Hq2
      iexact Hq3
    isplitl [Hx]; · iexact Hx
    iexact Ho
  isplitl [HW']
  · iexists W'; isplitr; · ipureintro; exact fun _ _ => Or.inl trivial
    iexact HW'
  isplitl [H0]
  · iexists f0; isplitr; · ipureintro; exact h0
    iexact H0
  isplitl [H1]
  · iexists f1; isplitr; · ipureintro; exact h1
    iexact H1
  iexists f2; isplitr; · ipureintro; exact h2
  iexact H2

/-- The pipeline's body at a point is the printed body there. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run, the frame, the value -/

set_option backward.isDefEq.respectTransparency.types false in
/-- The run ends with every buffer at its final contents and every semaphore at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun c => Entails.of_eq (PhiDRG0_eq m c (V m))) (hout := fun c => Entails.of_eq (PhiDRG0_eq m c (G m)).symm)

/-- The kernel terminates, nothing faults, its arguments end unchanged, its result ends at its value, and every semaphore
    ends at zero. -/
theorem run_all : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.written c (by decide)).trans (G_v0 m c),
      ((h.1.toR c).2 main_arg0 (Finset.mem_sdiff.mpr ⟨Pipeline.mem_restRefs_of main_arg0 (by decide) (by decide), by decide⟩)),
      ((h.1.toR c).2 main_arg1 (Finset.mem_sdiff.mpr ⟨Pipeline.mem_restRefs_of main_arg1 (by decide) (by decide), by decide⟩)),
      ((h.1.toR c).2 main_arg2 (Finset.mem_sdiff.mpr ⟨Pipeline.mem_restRefs_of main_arg2 (by decide) (by decide), by decide⟩)),
      ((h.1.toR c).2 main_arg3 (Finset.mem_sdiff.mpr ⟨Pipeline.mem_restRefs_of main_arg3 (by decide) (by decide), by decide⟩)),
      ((h.1.toR c).1 1).trans (((dats m 0 c).arrAt_in 1 rfl _).trans (A_eq m c 1)),
      ((h.1.toR c).1 2).trans (((dats m 0 c).arrAt_in 2 rfl _).trans (A_eq m c 2)),
      ((h.1.toR c).1 0).trans (((dats m 0 c).arrAt_in 0 rfl _).trans (A_eq m c 0))⟩, h.2⟩) (run_main m ρ)

end Cert.KernelIdeal.Hand
end
-- ==== Proof.KernelBits.lean ====
module

public import proofs.«01_k».proof.Proof.KernelFrame
public import proofs.«01_k».proof.Proof.Gen.Kernel

@[expose] public section

noncomputable section

namespace Cert.Kernel.Hand

open Idealize.ShloMosaic Idealize.ShloMosaic.TcCoe Idealize.ShloMosaic.Tactic
open Idealize.SL.Sem

variable {F : FTy → Type} [FloatOps F]

/-- The program as printed has the side conditions its shapes need. -/
instance facts : Cert.Kernel.Facts := Cert.Kernel.Gen.facts
/-- So has the program read over the extended reals. -/
instance factsIdeal : Cert.KernelIdeal.Facts := Cert.KernelIdeal.Gen.facts

/-- No operation was rewritten, so over the same float values the two programs have the same runs. -/
theorem run_eq (m : (ℓ : Loc Cert.Kernel.nD Cert.Kernel.τ Cert.Kernel.sig) → Buf (Elt F) ℓ) (ρ : Dev Cert.Kernel.nD → PrngReg)
    (Q) :
    θ_run (Cert.Kernel.defs (F := F)) (onTc (τ := Cert.Kernel.τ) (Cert.Kernel.main (F := F))) ⟨m, fun _ => 0, ρ⟩ Q
      = θ_run (Cert.KernelIdeal.defs (F := F)) (onTc (τ := Cert.KernelIdeal.τ) (Cert.KernelIdeal.main (F := F))) ⟨m, fun _ => 0, ρ⟩ Q := by
  sl_kernel_rfl

variable (m : (ℓ : Loc Cert.Kernel.nD Cert.Kernel.τ Cert.Kernel.sig) → Buf (Elt F) ℓ) (ρ : Dev Cert.Kernel.nD → PrngReg)

open Cert.Kernel in
/-- The program as printed ends with its arguments as they were and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [run_eq m ρ]
  exact (θ_run _ _ _).mono (fun _ h => ⟨fun c => (h.1 c).2, h.2⟩) (Cert.KernelIdeal.Hand.run_all (F := F) m ρ)

end Cert.Kernel.Hand

end
-- ==== Proof.RefRun.lean ====
module

public import proofs.«01_k».proof.Proof.Gen.ReferenceIdeal.Run
public import Idealize.ShloMosaic.Lib.Quiescent

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The references the loop writes: its condition's and its body's. -/
abbrev loopW : List (Ref sig .tc) := condOps_W ++ while0Ops0_W ++ while0Ops0_1_W ++ while0Ops0_2_W

/-- A buffer the loop does not write is after any number of trips what it was before the first. -/
theorem atK_keep (r : Ref sig .tc) (h : r ∉ loopW) (c : Dev nD) : ∀ k, atK m k c (Proc.devRef .tc r) = entryContents preI m c (Proc.devRef .tc r)
  | 0 => rfl
  | k + 1 => by
    have h' := h
    simp only [List.mem_append, not_or] at h'
    rw [show atK m (k + 1) c = afterL bodyI (after condOps (atK m k c)) from rfl]
    rw [afterL_cons, afterL_cons, afterL_cons, afterL_nil,
      after_of_writes_sub _ _ while0Ops0_2_writes h'.2, after_of_writes_sub _ _ while0Ops0_1_writes h'.1.2,
      after_of_writes_sub _ _ while0Ops0_writes h'.1.1.2, after_of_writes_sub _ _ condOps_writes h'.1.1.1, atK_keep r h c k]

/-- The buffers when the operations after the loop begin. -/
abbrev exitContents (c : Dev nD) : Valuation τ sig (Elt F) := after condOps (atK m 10 c)

/-- A buffer the loop does not write is at its end what it was at its start. -/
theorem exit_keep (r : Ref sig .tc) (h : r ∉ loopW) (c : Dev nD) :
    exitContents m c (Proc.devRef .tc r) = entryContents preI m c (Proc.devRef .tc r) := by
  have h' := h
  simp only [List.mem_append, not_or] at h'
  exact (after_of_writes_sub _ _ condOps_writes h'.1.1.1).trans (atK_keep m r h c 10)

/-- The references the operations before the loop write. -/
abbrev preW : List (Ref sig .tc) := hostOps0_W ++ hostOps0_1_W ++ hostOps0_2_W

/-- A buffer no operation before the loop writes enters the loop as it was launched. -/
theorem entry_keep (r : Ref sig .tc) (h : r ∉ preW) (c : Dev nD) :
    entryContents preI m c (Proc.devRef .tc r) = m ((c.tc : Thread nD τ).loc r) := by
  simp only [List.mem_append, not_or] at h
  simp only [entryContents, afterL_cons, afterL_nil]
  rw [after_of_writes_sub _ _ hostOps0_2_writes h.2, after_of_writes_sub _ _ hostOps0_1_writes h.1.2,
    after_of_writes_sub _ _ hostOps0_writes h.1.1]

/-- The references the operations after the loop write. -/
abbrev postW : List (Ref sig .tc) := [main_v16, main_v17, main_v18, main_c_4, main_v19, main_v20, main_v21, main_v22, main_v23, main_v24, main_v25, main_v26, main_c_5, main_v27, main_v28, main_c_6, main_v29, main_v30, main_c_7, main_v31, main_v32, main_v33, main_v34, main_v35, main_v36, main_v37, main_v38, main_v39, main_v40, main_v41, main_v42, main_v43, main_v44, main_v45, main_v46, main_v47, main_v48, main_v49, main_v50, main_v51]

/-- The operations after the loop write those references only. -/
theorem post_writes : (hostOps0_3 : List (HloOp τ sig (Elt F))).Forall fun op => op.writes ⊆ (postW.map (Proc.devRef (τ := τ) .tc)).toFinset :=
  StableHlo.forall_writes_sub_of_map rfl

/-- A buffer no operation of the program writes ends as it was launched. -/
theorem final_keep (r : Ref sig .tc) (h₀ : r ∉ preW) (h₁ : r ∉ loopW) (h₂ : r ∉ postW) (c : Dev nD) :
    finalContents condOps preI bodyI postI 10 m c (Proc.devRef .tc r) = m ((c.tc : Thread nD τ).loc r) := by
  rw [show finalContents condOps preI bodyI postI 10 m c = after hostOps0_3 (exitContents m c) from rfl,
    after_of_writes_sub _ _ post_writes h₂, exit_keep m r h₁ c, entry_keep m r h₀ c]

/-- The reference ends with its result as the fold says, its arguments as they were and every counter at zero. -/
theorem run_all : θ_run (defs (F := F)) (onTc (τ := τ) (main (F := F))) ⟨m, fun _ => 0, ρ⟩ (fun r => (∀ c : Dev nD,
      r.2.mem ((c.tc : Thread nD τ).loc main_v51) = after hostOps0_3 (exitContents m c) (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨h c main_v51 (by decide),
      (h c main_arg0 (by decide)).trans (final_keep m main_arg0 (by decide +kernel) (by decide +kernel) (by decide +kernel) c),
      (h c main_arg1 (by decide)).trans (final_keep m main_arg1 (by decide +kernel) (by decide +kernel) (by decide +kernel) c),
      (h c main_arg2 (by decide)).trans (final_keep m main_arg2 (by decide +kernel) (by decide +kernel) (by decide +kernel) c),
      (h c main_arg3 (by decide)).trans (final_keep m main_arg3 (by decide +kernel) (by decide +kernel) (by decide +kernel) c),
      (h c main_arg4 (by decide)).trans (final_keep m main_arg4 (by decide +kernel) (by decide +kernel) (by decide +kernel) c),
      (h c main_arg5 (by decide)).trans (final_keep m main_arg5 (by decide +kernel) (by decide +kernel) (by decide +kernel) c),
      (h c main_arg6 (by decide)).trans (final_keep m main_arg6 (by decide +kernel) (by decide +kernel) (by decide +kernel) c)⟩,
    sem_eq_zero_of_no_sems (by decide) r.2⟩) (run_fold m ρ)

end Cert.ReferenceIdeal.Hand

end
-- ==== Proof.RefVal.lean ====
module

public import proofs.«01_k».proof.Proof.RefRun

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The mean over the sequence axis, kept as an axis of length one. -/
def meanOf (x : FVec F S32x2048x256 .f32) : FVec F S32x1x256 .f32 :=
  Host.divf (broadcastInDim S32x1x256 ![0, 2] bcast_S32x256_S32x1x256_0_2 (Host.reduceAdd x (constant S_ .f32 0x00000000#32) reducesTo_S32x2048x256_S32x256_d1 h_S_))
    (broadcastInDim S32x1x256 ![] bcast_S_S32x1x256 (constant S_ .f32 0x45000000#32))

/-- The series with its mean taken off. -/
def centred (x : FVec F S32x2048x256 .f32) : FVec F S32x2048x256 .f32 :=
  subf x (broadcastInDim S32x2048x256 ![0, 1, 2] bcast_S32x1x256_S32x2048x256_0_1_2 (meanOf x))

/-- The number of samples the variance divides by: the length less a correction of zero. -/
def count : FVec F S_ .f32 := subf (constant S_ .f32 0x45000000#32) (sitofp .f32 (constantI S_ 32 0#32))

/-- The variance over the sequence axis, guarded against an empty count. -/
def varOf (x : FVec F S32x2048x256 .f32) : FVec F S32x1x256 .f32 :=
  select (broadcastInDim S32x1x256 ![] bcast_S_S32x1x256 (cmpf .ogt (count (F := F)) (constant S_ .f32 0x00000000#32)))
    (Host.divf (broadcastInDim S32x1x256 ![0, 2] bcast_S32x256_S32x1x256_0_2 (Host.reduceAdd (mulf (centred x) (centred x)) (constant S_ .f32 0x00000000#32) reducesTo_S32x2048x256_S32x256_d1 h_S_))
      (broadcastInDim S32x1x256 ![] bcast_S_S32x1x256 (count (F := F))))
    (broadcastInDim S32x1x256 ![] bcast_S_S32x1x256 (constant S_ .f32 0x7FC00000#32))

/-- The standard deviation of the centred series, with the guard under the root. -/
def stdOf (x : FVec F S32x2048x256 .f32) : FVec F S32x1x256 .f32 :=
  Host.sqrt (addf (varOf (centred x)) (broadcastInDim S32x1x256 ![] bcast_S_S32x1x256 (constant S_ .f32 0x3727C5AC#32)))

/-- The normalised series cut into its eight segments, segment first. -/
def segsOf (x : FVec F S32x2048x256 .f32) : FVec F S8x32x256x256 .f32 :=
  transpose S8x32x256x256 [1, 0, 2, 3]
    (shapeCast S32x8x256x256 (Host.divf (centred x) (broadcastInDim S32x2048x256 ![0, 1, 2] bcast_S32x1x256_S32x2048x256_0_1_2 (stdOf x))) shapeCasts_S32x2048x256_S32x8x256x256)
    transposes_S32x8x256x256_S8x32x256x256_1_0_2_3

variable (m : (ℓ : Loc nD τ sig) → Buf (Elt F) ℓ)

set_option maxHeartbeats 1000000 in
/-- What the loop is entered with at the mean. -/
theorem entry_mean (c : Dev nD) : entryContents preI m c (Proc.devRef .tc main_v3) = meanOf (m ((c.tc : Thread nD τ).loc main_arg0)) := by
  simp only [entryContents, afterL_cons, afterL_nil]
  after_reads_simp
  rfl

set_option maxHeartbeats 1000000 in
/-- What the loop is entered with at the standard deviation. -/
theorem entry_std (c : Dev nD) : entryContents preI m c (Proc.devRef .tc main_v9) = stdOf (m ((c.tc : Thread nD τ).loc main_arg0)) := by
  simp only [entryContents, afterL_cons, afterL_nil]
  after_reads_simp
  rfl

set_option maxHeartbeats 1000000 in
/-- What the loop is entered with at the segments. -/
theorem entry_segs (c : Dev nD) : entryContents preI m c (Proc.devRef .tc main_v13) = segsOf (m ((c.tc : Thread nD τ).loc main_arg0)) := by
  simp only [entryContents, afterL_cons, afterL_nil]
  after_reads_simp
  rfl

/-- The table of zeros the loop starts to fill. -/
theorem entry_stack (c : Dev nD) : entryContents preI m c (Proc.devRef .tc main_v15_3)
    = broadcastInDim S10x256x256 ![] bcast_S_S10x256x256 (constant S_ .f32 0x00000000#32 : FVec F S_ .f32) := by
  simp only [entryContents, afterL_cons, afterL_nil]
  after_reads_simp
  rfl

/-- The loop's fixed factor is the base matrix. -/
theorem entry_base (c : Dev nD) : entryContents preI m c (Proc.devRef .tc main_v15_0) = m ((c.tc : Thread nD τ).loc main_arg4) := by
  simp only [entryContents, afterL_cons, afterL_nil]
  after_reads_simp
  rfl

/-- The loop's running power starts at the base matrix. -/
theorem entry_power (c : Dev nD) : entryContents preI m c (Proc.devRef .tc main_v15_2) = m ((c.tc : Thread nD τ).loc main_arg4) := by
  simp only [entryContents, afterL_cons, afterL_nil]
  after_reads_simp
  rfl

/-- The position in the list of powers that each step and segment take: eight less the segment plus the step less one,
    wrapped round where it is negative. -/
def expIdx : IVec S4x8x1 32 :=
  let e : IVec S4x8 32 := subi
    (addi (broadcastInDim S4x8 ![0, 1] bcast_S1x8_S4x8_0_1 (broadcastInDim S1x8 ![1] bcast_S8_S1x8_1 (subi (broadcastInDim S8 ![] bcast_S_S8 (constantI S_ 32 8#32)) (iotaInDim S8 32 0))))
      (broadcastInDim S4x8 ![0, 1] bcast_S4x1_S4x8_0_1 (broadcastInDim S4x1 ![0] bcast_S4_S4x1_0 (iotaInDim S4 32 0))))
    (broadcastInDim S4x8 ![] bcast_S_S4x8 (constantI S_ 32 1#32))
  broadcastInDim S4x8x1 ![0, 1] bcast_S4x8_S4x8x1_0_1
    (select (cmpi .slt e (broadcastInDim S4x8 ![] bcast_S_S4x8 (constantI S_ 32 0#32))) (addi e (broadcastInDim S4x8 ![] bcast_S_S4x8 (constantI S_ 32 11#32))) e)

/-- The base matrix in front of its stacked higher powers. -/
def powers (w : FVec F S256x256 .f32) (rest : FVec F S10x256x256 .f32) : FVec F S11x256x256 .f32 :=
  concatenate S11x256x256 0 [⟨S1x256x256, broadcastInDim S1x256x256 ![1, 2] bcast_S256x256_S1x256x256_1_2 w⟩, ⟨S10x256x256, rest⟩] concatenates_S1x256x256_S10x256x256_S11x256x256_d0

/-- The power each step and segment take. -/
def picked (pw : FVec F S11x256x256 .f32) : FVec F S4x8x256x256 .f32 :=
  Host.gather gather_S11x256x256_S4x8x1_S4x8x256x256_23_0_n_n_0_2_1256256 pw expIdx

/-- Each segment carried by each step's power. -/
def carried (seg : FVec F S8x32x256x256 .f32) (wlk : FVec F S4x8x256x256 .f32) : FVec F S4x8x32x256x256 .f32 :=
  transpose S4x8x32x256x256 [3, 0, 1, 4, 2] (Host.dotGeneral dot_S8x32x256x256_S4x8x256x256_S8x32x256x4x256_2_3_13_02_0_1 none seg wlk) transposes_S8x32x256x4x256_S4x8x32x256x256_3_0_1_4_2

/-- The weighted sum over the segments with the offset of each step. -/
def decoded (we : FVec F S4x8 .f32) (be : FVec F S4 .f32) (res : FVec F S4x8x32x256x256 .f32) : FVec F S4x32x256x256 .f32 :=
  addf (Host.dotGeneral dot_S4x8_S4x8x32x256x256_S4x32x256x256_1_1_n_234_0_0 none we res)
    (broadcastInDim S4x32x256x256 ![0, 1, 2, 3] bcast_S4x1x1x1_S4x32x256x256_0_1_2_3 (broadcastInDim S4x1x1x1 ![0] bcast_S4_S4x1x1x1_0 be))

/-- A per-series number spread over the predicted length. -/
def spread (v : FVec F S32x1x256 .f32) : FVec F S32x1024x256 .f32 :=
  broadcastInDim S32x1024x256 ![0, 1, 2] bcast_S32x1x256_S32x1024x256_0_1_2 (broadcastInDim S32x1x256 ![0, 2] bcast_S32x256_S32x1x256_0_2 (shapeCast S32x256 v shapeCasts_S32x1x256_S32x256))

/-- The forecast put back on the scale of the series. -/
def restored (dec : FVec F S4x32x256x256 .f32) (sd mu : FVec F S32x1x256 .f32) : FVec F S32x1024x256 .f32 :=
  addf (mulf (shapeCast S32x1024x256 (transpose S32x4x256x256 [1, 0, 2, 3] dec transposes_S4x32x256x256_S32x4x256x256_1_0_2_3) shapeCasts_S32x4x256x256_S32x1024x256) (spread sd)) (spread mu)

set_option maxHeartbeats 2000000 in
/-- The operations after the loop, from any contents. -/
theorem post_value (V : Valuation τ sig (Elt F)) : after hostOps0_3 V (Proc.devRef .tc main_v51)
    = restored (decoded (V (Proc.devRef .tc main_arg5)) (V (Proc.devRef .tc main_arg6))
        (carried (V (Proc.devRef .tc main_v13)) (picked (powers (V (Proc.devRef .tc main_arg4)) (V (Proc.devRef .tc main_v15_3))))))
        (V (Proc.devRef .tc main_v9)) (V (Proc.devRef .tc main_v3)) := by
  after_reads_simp
  rfl

/-- The running power after a number of trips. -/
def powAt (w : FVec F S256x256 .f32) : ℕ → FVec F S256x256 .f32
  | 0 => w
  | k + 1 => Host.dotGeneral dot_S256x256_S256x256_S256x256_1_0_0_1_n_n none w (powAt w k)

/-- The stack of powers after a number of trips. -/
def stackAt (w : FVec F S256x256 .f32) : ℕ → FVec F S10x256x256 .f32
  | 0 => broadcastInDim S10x256x256 ![] bcast_S_S10x256x256 (constant S_ .f32 0x00000000#32 : FVec F S_ .f32)
  | k + 1 => Host.dynamicUpdateSlice (stackAt w k) (broadcastInDim S1x256x256 ![1, 2] bcast_S256x256_S1x256x256_1_2 (powAt w (k + 1)))
      ![(Scf.iv 0#32 1#32 k).toInt, 0, 0] updateFits_S10x256x256_S1x256x256

/-- The loop's fixed factor, power and stack after a number of trips. -/
theorem atK_value (c : Dev nD) : ∀ k, atK m k c (Proc.devRef .tc main_v15_0) = m ((c.tc : Thread nD τ).loc main_arg4)
    ∧ atK m k c (Proc.devRef .tc main_v15_2) = powAt (m ((c.tc : Thread nD τ).loc main_arg4)) k
    ∧ atK m k c (Proc.devRef .tc main_v15_3) = stackAt (m ((c.tc : Thread nD τ).loc main_arg4)) k
  | 0 => ⟨entry_base m c, entry_power m c, entry_stack m c⟩
  | k + 1 => by
    obtain ⟨h0, h2, h3⟩ := atK_value c k
    have hc := atK_ctr m c k
    have hs : res_main_while0b_v52 (atK m k c) = powAt (m ((c.tc : Thread nD τ).loc main_arg4)) (k + 1) := by
      unfold res_main_while0b_v52
      rw [h0, h2]
      rfl
    have ht := trip_agree (atK m k c)
    refine ⟨(ht main_v15_0 (by decide)).trans ((STEP_main_v15_0 _).trans h0),
      (ht main_v15_2 (by decide)).trans ((STEP_main_v15_2 _).trans hs),
      (ht main_v15_3 (by decide)).trans ((STEP_main_v15_3 _).trans ?_)⟩
    unfold step_main_v15_3
    rw [hs, h3, hc, id, stackAt]
    refine congrArg (fun i => Host.dynamicUpdateSlice _ _ i _) (funext fun a => ?_)
    fin_cases a <;> rfl

/-- The reference's result as a function of its arguments. -/
def refVal (x : FVec F S32x2048x256 .f32) (w : FVec F S256x256 .f32) (we : FVec F S4x8 .f32) (be : FVec F S4 .f32) : FVec F S32x1024x256 .f32 :=
  restored (decoded we be (carried (segsOf x) (picked (powers w (stackAt w 10))))) (stdOf x) (meanOf x)

/-- The fold at the result is that function of the launch contents. -/
theorem fold_value (c : Dev nD) : after hostOps0_3 (exitContents m c) (Proc.devRef .tc main_v51)
    = refVal (m ((c.tc : Thread nD τ).loc main_arg0)) (m ((c.tc : Thread nD τ).loc main_arg4)) (m ((c.tc : Thread nD τ).loc main_arg5)) (m ((c.tc : Thread nD τ).loc main_arg6)) := by
  rw [post_value, exit_keep m main_arg5 (by decide +kernel), exit_keep m main_arg6 (by decide +kernel), exit_keep m main_arg4 (by decide +kernel),
    exit_keep m main_v13 (by decide +kernel), exit_keep m main_v9 (by decide +kernel), exit_keep m main_v3 (by decide +kernel),
    entry_keep m main_arg5 (by decide +kernel), entry_keep m main_arg6 (by decide +kernel), entry_keep m main_arg4 (by decide +kernel),
    entry_segs, entry_std, entry_mean,
    show exitContents m c (Proc.devRef .tc main_v15_3) = stackAt (m ((c.tc : Thread nD τ).loc main_arg4)) 10 from
      (cond_keeps (atK m 10 c) main_v15_3 (by decide)).trans (atK_value m c 10).2.2]
  rfl

end Cert.ReferenceIdeal.Hand

end
-- ==== Proof.Maths.lean ====
module

public import Idealize.ShloMosaic.PureOps.Ideal
public import Idealize.ShloMosaic.PureOps.Ideal.Laws
public import Mathlib.Data.Matrix.Mul
public import Mathlib.Algebra.BigOperators.Fin
public import Mathlib.Analysis.SpecialFunctions.Pow.Real
public import Mathlib.Data.EReal.Inv

@[expose] public section

noncomputable section

namespace Cert.Forecast

open Idealize.ShloMosaic
open scoped BigOperators

/-- The mean of a series. -/
def mean (X : Fin 2048 → ℝ) : ℝ := (∑ s, X s) * (1 / 2048)

/-- The variance as the mean of the squares less the square of the mean. -/
def varK (X : Fin 2048 → ℝ) : ℝ := (∑ s, X s * X s) * (1 / 2048) - mean X * mean X

/-- The variance as the mean square of the series with its mean taken off. -/
def varR (X : Fin 2048 → ℝ) : ℝ := (∑ s, (X s - mean X) * (X s - mean X)) * (1 / 2048)

/-- A sum over the whole series of the series less its mean is zero. -/
theorem sum_sub_mean (X : Fin 2048 → ℝ) : ∑ s, (X s - mean X) = 0 := by
  rw [Finset.sum_sub_distrib, Finset.sum_const, Finset.card_univ, Fintype.card_fin, nsmul_eq_mul, mean]
  push_cast
  ring

/-- A series with its mean taken off has mean zero. -/
theorem mean_sub_mean (X : Fin 2048 → ℝ) : mean (fun s => X s - mean X) = 0 := by
  rw [mean, sum_sub_mean, zero_mul]

/-- The two variances are the same number. -/
theorem varR_eq_varK (X : Fin 2048 → ℝ) : varR X = varK X := by
  have h : ∑ s, (X s - mean X) * (X s - mean X) = ∑ s, X s * X s - 2048 * (mean X * mean X) := by
    have h1 : ∀ s, (X s - mean X) * (X s - mean X) = X s * X s - mean X * (X s - mean X) - mean X * X s := fun s => by ring
    have h2 : ∑ s, X s = 2048 * mean X := by rw [mean]; ring
    simp only [h1]
    rw [Finset.sum_sub_distrib, Finset.sum_sub_distrib, ← Finset.mul_sum, ← Finset.mul_sum, sum_sub_mean, h2]
    ring
  rw [varR, varK, h]
  ring

/-- The variance of the centred series is the variance of the series. -/
theorem varR_sub_mean (X : Fin 2048 → ℝ) : varR (fun s => X s - mean X) = varR X := by
  rw [varR, mean_sub_mean]
  simp only [sub_zero]
  rfl

/-- The variance is not negative. -/
theorem varR_nonneg (X : Fin 2048 → ℝ) : 0 ≤ varR X :=
  mul_nonneg (Finset.sum_nonneg fun s _ => mul_self_nonneg _) (by norm_num)

/-- A sum over the series is a sum over its eight segments and the places in a segment. -/
theorem sum_segments {M : Type*} [AddCommMonoid M] (f : Fin 2048 → M) :
    ∑ s, f s = ∑ k : Fin 8, ∑ p : Fin 256, f ⟨256 * k.1 + p.1, by omega⟩ := by
  rw [← Fintype.sum_prod_type']
  refine (Fintype.sum_equiv (finProdFinEquiv (m := 8) (n := 256)) _ _ fun a => congrArg f (Fin.ext ?_)).symm
  simp [finProdFinEquiv, Nat.add_comm]

/-- The forecast's equation over the reals: the weighted powers applied to the raw series with the mean corrected
    afterwards is the normalised series carried by the powers and put back on its scale. -/
theorem forecast_real (X A : Fin 2048 → ℝ) (sd : ℝ) (hsd : sd ≠ 0) :
    ∑ s, A s * X s + (1 - ∑ s, A s) * mean X = (∑ s, A s * ((X s - mean X) / sd)) * sd + mean X := by
  have h : ∀ s, A s * ((X s - mean X) / sd) * sd = A s * X s - A s * mean X := fun s => by field_simp
  rw [Finset.sum_mul]
  simp only [h]
  rw [Finset.sum_sub_distrib, ← Finset.sum_mul]
  ring

/-- Adding an offset times the scale outside is adding the offset inside, whatever extended real the offset is. -/
theorem offset_inside (S R T μ sd : ℝ) (hsd : 0 < sd) (β : EReal) (h : S + R = T * sd + μ) :
    (S : EReal) + ((R : EReal) + β * (sd : EReal)) = ((T : EReal) + β) * (sd : EReal) + (μ : EReal) := by
  induction β with
  | bot => rw [EReal.bot_mul_coe_of_pos hsd, EReal.add_bot, EReal.add_bot, EReal.add_bot, EReal.bot_mul_coe_of_pos hsd, EReal.bot_add]
  | top => rw [EReal.top_mul_coe_of_pos hsd, EReal.coe_add_top, EReal.coe_add_top, EReal.coe_add_top, EReal.top_mul_coe_of_pos hsd, EReal.top_add_coe]
  | coe b =>
    norm_cast
    rw [← add_assoc, h]
    ring

/-- The f32 word of the number of samples. -/
theorem word_2048 : Ideal.ofBits .f32 0x45000000#32 = ((2048 : ℝ) : EReal) := by
  simp [Ideal.ofBits, Ideal.ieee]
  norm_num [zpow_neg]
  rw [← EReal.coe_mul]
  norm_num

/-- The f32 word of its reciprocal. -/
theorem word_inv : Ideal.ofBits .f32 0x3A000000#32 = ((1 / 2048 : ℝ) : EReal) := by
  simp [Ideal.ofBits, Ideal.ieee]
  norm_num [zpow_neg]
  rw [← EReal.coe_mul]
  norm_num

/-- The guard under the root, as a number. -/
def eps : ℝ := 10995116 * ((2 : ℝ) ^ 40)⁻¹

/-- The f32 word of the guard. -/
theorem word_eps : Ideal.ofBits .f32 0x3727C5AC#32 = ((eps : ℝ) : EReal) := by
  simp [Ideal.ofBits, Ideal.ieee, eps]

/-- The guard is positive. -/
theorem eps_pos : 0 < eps := by unfold eps; positivity

/-- The word of one. -/
theorem word_one : Ideal.ofBits .f32 0x3F800000#32 = ((1 : ℝ) : EReal) := by
  simp [Ideal.ofBits, Ideal.ieee]
  norm_num [zpow_neg]
  rw [← EReal.coe_mul]
  norm_num

/-- The standard deviation of a series, with the guard under the root. -/
def std (X : Fin 2048 → ℝ) : ℝ := Real.sqrt (varR X + eps)

/-- The standard deviation is positive. -/
theorem std_pos (X : Fin 2048 → ℝ) : 0 < std X :=
  Real.sqrt_pos.mpr (add_pos_of_nonneg_of_pos (varR_nonneg X) eps_pos)

/-- The root of a number that is not negative. -/
theorem ideal_sqrt (r : ℝ) (h : 0 ≤ r) : Ideal.sqrt (r : EReal) = ((Real.sqrt r : ℝ) : EReal) :=
  if_neg (not_lt.mpr h)

/-- A sum of reals among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coefficient with which step `r` of the forecast takes sample `s` of the series: the weight of the sample's segment
    times the entry of the power that carries that segment to the step. -/
def coef (W : Matrix (Fin 256) (Fin 256) ℝ) (ω : Fin 4 → Fin 8 → ℝ) (r : Fin 1024) (s : Fin 2048) : ℝ :=
  ω ⟨r.val / 256, by omega⟩ ⟨s.val / 256, by omega⟩ *
    (W ^ (7 - s.val / 256 + r.val / 256 + 1)) ⟨r.val % 256, by omega⟩ ⟨s.val % 256, by omega⟩

/-- The quotient of two reals, the divisor not zero. -/
theorem div_real (a b : ℝ) (h : b ≠ 0) : Ideal.div (a : EReal) (b : EReal) = ((a / b : ℝ) : EReal) := by
  rw [Ideal.div_coe h, ← EReal.coe_mul, mul_one_div]

end Cert.Forecast

end
-- ==== Proof.KernelMaths.lean ====
module

public import proofs.«01_k».proof.Proof.KernelTable
public import proofs.«01_k».proof.Proof.Maths
public import Idealize.ShloMosaic.Lib.Pointwise

@[expose] public section

set_option maxRecDepth 16384

noncomputable section

namespace Cert.KernelIdeal.Hand

open Cert.KernelIdeal Cert.KernelIdeal.Gen
open Idealize.ShloMosaic
open Cert.Forecast
open scoped BigOperators

/-- A product of two square matrices at an index. -/
theorem prod_apply (a b : FVec Ideal S256x256 .f32) (q p : Fin 256) :
    matmul dot_S256x256_S256x256_S256x256_1_0_0_1_n_n (some .fp32) a b (constant S256x256 .f32 0x00000000#32) (ix2 q p)
      = ∑ k : Fin 256, a (ix2 q k) * b (ix2 k p) := by
  pointwise

/-- A block of extended reals that holds a real matrix. -/
def Holds (v : Vec Ideal S256x256 .f32) (M : Matrix (Fin 256) (Fin 256) ℝ) : Prop :=
  ∀ q p, v (ix2 q p) = ((M q p : ℝ) : EReal)

/-- The product of two blocks holding real matrices holds their product. -/
theorem Holds.mul {a b : Vec Ideal S256x256 .f32} {A B : Matrix (Fin 256) (Fin 256) ℝ} (ha : Holds a A) (hb : Holds b B) :
    Holds (matmul (F := Ideal) (φ₁ := .f32) (φ₂ := .f32) dot_S256x256_S256x256_S256x256_1_0_0_1_n_n (some .fp32) a b (constant S256x256 .f32 0x00000000#32)) (A * B) := fun q p => by
  rw [prod_apply, Matrix.mul_apply, coe_sum]
  refine Finset.sum_congr rfl fun k _ => ?_
  rw [ha, hb, EReal.coe_mul]

/-- The kernel's powers hold the powers of the base matrix. -/
theorem powW_holds (w : Vec Ideal S256x256 .f32) (W : Matrix (Fin 256) (Fin 256) ℝ) (hw : Holds w W) (i : Fin 11) :
    Holds (powW w i) (W ^ (i.val + 1)) := by
  have h1 : Holds w (W ^ 1) := by rw [pow_one]; exact hw
  have h2 : Holds (k0_pay1 w) (W ^ 2) := pow_two W ▸ hw.mul hw
  have h3 : Holds (k0_pay2 w) (W ^ 3) := pow_succ W 2 ▸ h2.mul hw
  have h4 : Holds (k0_pay3 w) (W ^ 4) := pow_add W 2 2 ▸ h2.mul h2
  have h5 : Holds (k0_pay4 w) (W ^ 5) := pow_add W 4 1 ▸ h4.mul h1
  have h6 : Holds (k0_pay5 w) (W ^ 6) := pow_add W 4 2 ▸ h4.mul h2
  have h7 : Holds (k0_pay6 w) (W ^ 7) := pow_add W 4 3 ▸ h4.mul h3
  have h8 : Holds (k0_pay7 w) (W ^ 8) := pow_add W 4 4 ▸ h4.mul h4
  have h9 : Holds (k0_pay8 w) (W ^ 9) := pow_add W 8 1 ▸ h8.mul h1
  have h10 : Holds (k0_pay9 w) (W ^ 10) := pow_add W 8 2 ▸ h8.mul h2
  have h11 : Holds (k0_pay10 w) (W ^ 11) := pow_add W 8 3 ▸ h8.mul h3
  match i with
  | 0 => exact h1
  | 1 => exact h2
  | 2 => exact h3
  | 3 => exact h4
  | 4 => exact h5
  | 5 => exact h6
  | 6 => exact h7
  | 7 => exact h8
  | 8 => exact h9
  | 9 => exact h10
  | 10 => exact h11

/-- The kernel's table holds the coefficients. -/
theorem gTab_apply (w : Vec Ideal S256x256 .f32) (we : Fin 4 → Fin 8 → EReal) (W : Matrix (Fin 256) (Fin 256) ℝ) (ω : Fin 4 → Fin 8 → ℝ)
    (hw : Holds w W) (hwe : ∀ l k, we l k = ((ω l k : ℝ) : EReal)) (r : Fin 1024) (s : Fin 2048) :
    gTab (F := Ideal) w we (ix2 r s) = ((coef W ω r s : ℝ) : EReal) := by
  show (we _ _ : EReal) * powW w _ (ValueIdx.ix2 _ _) = _
  rw [← ix2_eq_valueIdx, powW_holds w W hw, hwe, ← EReal.coe_mul]
  rfl

/-- The row sums' complement, read at an index. -/
theorem rest_apply (g : Vec Ideal S1024x2048 .f32) (r : Fin 1024) (n : Fin 256) :
    k0_pay46 (F := Ideal) g (ix2 r n) = (1 - ∑ s, g (ix2 r s) : EReal) := by
  pointwise [k0_pay46]

/-- The kernel's mean of a series of reals. -/
theorem mean_apply (x : Vec Ideal S1x1x2048x256 .f32) (n : Fin 256) (X : Fin 2048 → ℝ) (hx : ∀ s, x (ix4 0 0 s n) = ((X s : ℝ) : EReal)) :
    k0_pay49 (F := Ideal) x (ix2 0 n) = ((mean X : ℝ) : EReal) := by
  pointwise [k0_pay49, k0_pay48]
  rw [word_inv, mean, EReal.coe_mul, coe_sum]
  simp only [hx]

/-- The kernel's standard deviation of a series of reals. -/
theorem std_apply (x : Vec Ideal S1x1x2048x256 .f32) (n : Fin 256) (X : Fin 2048 → ℝ) (hx : ∀ s, x (ix4 0 0 s n) = ((X s : ℝ) : EReal)) :
    k0_pay50 (F := Ideal) x (ix2 0 n) = ((std X : ℝ) : EReal) := by
  pointwise [k0_pay50, k0_pay49, k0_pay48]
  have h1 : (∑ s, (X s : EReal)) * ((1 / 2048 : ℝ) : EReal) = ((mean X : ℝ) : EReal) := by
    rw [mean, EReal.coe_mul, coe_sum]
  have h2 : (∑ s, (X s : EReal) * (X s : EReal)) * ((1 / 2048 : ℝ) : EReal) = (((∑ s, X s * X s) * (1 / 2048) : ℝ) : EReal) := by
    rw [EReal.coe_mul, coe_sum]
    simp only [EReal.coe_mul]
  rw [word_inv, word_eps]
  simp only [hx]
  rw [h1, h2, ← EReal.coe_mul, ← EReal.coe_sub, ← EReal.coe_add, ideal_sqrt, std, varR_eq_varK, varK]
  exact le_of_lt (by have := varR_nonneg X; rw [varR_eq_varK, varK] at this; exact add_pos_of_nonneg_of_pos this eps_pos)

/-- The kernel's product of its table and the series. -/
theorem main_apply (x : Vec Ideal S1x1x2048x256 .f32) (g : Vec Ideal S1024x2048 .f32) (r : Fin 1024) (n : Fin 256) :
    k0_pay51 (F := Ideal) x g (ix2 r n) = (∑ s, g (ix2 r s) * x (ix4 0 0 s n) : EReal) := by
  pointwise [k0_pay51, k0_pay48]

/-- One block of rows of the kernel's result, read at an index. -/
theorem outPiece_apply (g : Vec Ideal S1024x2048 .f32) (rsb : Fin 4 → Vec Ideal S256x256 .f32) (be : Fin 4 → EReal) (l : Fin 4)
    (x : Vec Ideal S1x1x2048x256 .f32) (q n : Fin 256) :
    outPiece (F := Ideal) g rsb be l x (ix4 0 0 q n)
      = (k0_pay51 (F := Ideal) x g (ix2 ⟨256 * l.val + q.val, by omega⟩ n)
          + (rsb l (ix2 q n) * k0_pay49 (F := Ideal) x (ix2 0 n) + be l * k0_pay50 (F := Ideal) x (ix2 0 n)) : EReal) := by
  pointwise [outPiece]

/-- The kernel's result at an index, of real operands: the coefficients applied to the series, the mean corrected by the row sums'
    complement, and the offset on the scale of the series. -/
theorem outVal_apply (be : Vec Ideal S4 .f32) (w : Vec Ideal S256x256 .f32) (we : Vec Ideal S4x8 .f32) (x : S32x2048x256.Idx → EReal)
    (W : Matrix (Fin 256) (Fin 256) ℝ) (ω : Fin 4 → Fin 8 → ℝ) (hw : Holds w W) (hwe : ∀ l k, we (ix2 l k) = ((ω l k : ℝ) : EReal))
    (b : Fin 32) (r : Fin 1024) (n : Fin 256) (X : Fin 2048 → ℝ) (hx : ∀ s, x (ix3 b s n) = ((X s : ℝ) : EReal)) :
    outVal (F := Ideal) be w we x (ix3 b r n)
      = (((∑ s, coef W ω r s * X s : ℝ) : EReal) + ((((1 - ∑ s, coef W ω r s) * mean X : ℝ) : EReal)
          + (be (ix1 ⟨r.val / 256, by omega⟩) : EReal) * ((std X : ℝ) : EReal))) := by
  have hg : ∀ s, gTab (F := Ideal) w (fun l k => we (ValueIdx.ix2 l k)) (ix2 r s) = ((coef W ω r s : ℝ) : EReal) :=
    fun s => gTab_apply w _ W ω hw (fun l k => by rw [← ix2_eq_valueIdx]; exact hwe l k) r s
  have hr : (⟨256 * (r.val / 256) + r.val % 256, by omega⟩ : Fin 1024) = r := Fin.ext (Nat.div_add_mod r.val 256)
  show outPiece (F := Ideal) (gTab w fun l k => we (ValueIdx.ix2 l k)) (rsTab (gTab w fun l k => we (ValueIdx.ix2 l k))) (fun l => be (ValueIdx.ix1 l))
    ⟨r.val / 256, by omega⟩ (fun z => x (ValueIdx.ix3 b (show Fin 2048 from z 2) (show Fin 256 from z 3))) (ValueIdx.ix4 (0 : Fin 1) (0 : Fin 1) (⟨r.val % 256, by omega⟩ : Fin 256) n) = _
  have hx' : ∀ s, (fun z : S1x1x2048x256.Idx => x (ValueIdx.ix3 b (show Fin 2048 from z 2) (show Fin 256 from z 3))) (ix4 0 0 s n) = ((X s : ℝ) : EReal) :=
    fun s => by rw [← hx s, ix3_eq_valueIdx]; rfl
  rw [← ix4_eq_valueIdx, outPiece_apply, main_apply, mean_apply _ n X hx', std_apply _ n X hx', ← ix1_eq_valueIdx]
  have hrs : rsTab (F := Ideal) (gTab w fun l k => we (ValueIdx.ix2 l k)) ⟨r.val / 256, by omega⟩ (ix2 ⟨r.val % 256, by omega⟩ n)
      = ((1 - ∑ s, coef W ω r s : ℝ) : EReal) := by
    show k0_pay46 (F := Ideal) _ (ValueIdx.ix2 (⟨256 * (r.val / 256) + r.val % 256, by omega⟩ : Fin 1024) n) = _
    rw [← ix2_eq_valueIdx, rest_apply, hr, EReal.coe_sub, coe_sum, EReal.coe_one]
    simp only [hg]
  rw [hrs, hr, ← EReal.coe_mul, coe_sum]
  simp only [hg, hx', EReal.coe_mul]

end Cert.KernelIdeal.Hand

end
-- ==== Proof.RefMaths.lean ====
module

public import proofs.«01_k».proof.Proof.RefVal
public import proofs.«01_k».proof.Proof.Maths
public import Idealize.ShloMosaic.Lib.WordCmp
public import Idealize.ShloMosaic.Lib.Pointwise

@[expose] public section

set_option maxRecDepth 16384

noncomputable section

namespace Cert.ReferenceIdeal.Hand

open Cert.ReferenceIdeal Cert.ReferenceIdeal.Gen
open Idealize.ShloMosaic
open Cert.Forecast
open scoped BigOperators

/-- The reference's mean of a series of reals. -/
theorem meanOf_apply (x : FVec Ideal S32x2048x256 .f32) (b : Fin 32) (n : Fin 256) (X : Fin 2048 → ℝ)
    (hx : ∀ s, x (ix3 b s n) = ((X s : ℝ) : EReal)) : meanOf x (ix3 b 0 n) = ((mean X : ℝ) : EReal) := by
  pointwise [meanOf]
  rw [word_2048, mean]
  simp only [hx]
  rw [← coe_sum, div_real _ _ (by norm_num), mul_one_div]

/-- The centred series at an index. -/
theorem centred_apply (x : FVec Ideal S32x2048x256 .f32) (b : Fin 32) (s : Fin 2048) (n : Fin 256) :
    centred x (ix3 b s n) = (x (ix3 b s n) - meanOf x (ix3 b 0 n) : EReal) := by
  pointwise [centred]

/-- The centred series of a series of reals. -/
theorem centred_real (x : FVec Ideal S32x2048x256 .f32) (b : Fin 32) (n : Fin 256) (X : Fin 2048 → ℝ)
    (hx : ∀ s, x (ix3 b s n) = ((X s : ℝ) : EReal)) (s : Fin 2048) : centred x (ix3 b s n) = ((X s - mean X : ℝ) : EReal) := by
  rw [centred_apply, hx, meanOf_apply x b n X hx, EReal.coe_sub]

/-- The count the variance divides by is the length. -/
theorem count_value : (Ideal.ofBits .f32 0x45000000#32 - FloatOps.sitofp (F := Ideal) .f32 0#32 : EReal) = ((2048 : ℝ) : EReal) := by
  rw [word_2048, show (FloatOps.sitofp (F := Ideal) .f32 0#32 : EReal) = ((0 : ℝ) : EReal) from by
    show (((0#32 : BitVec 32).toInt : ℝ) : EReal) = _
    simp, ← EReal.coe_sub, sub_zero]

/-- The reference's variance of a series of reals. -/
theorem varOf_apply (x : FVec Ideal S32x2048x256 .f32) (b : Fin 32) (n : Fin 256) (X : Fin 2048 → ℝ)
    (hx : ∀ s, x (ix3 b s n) = ((X s : ℝ) : EReal)) : varOf x (ix3 b 0 n) = ((varR X : ℝ) : EReal) := by
  pointwise [varOf, count]
  rw [count_value, if_pos (EReal.coe_pos.mpr (by norm_num))]
  simp only [centred_real x b n X hx, ← EReal.coe_mul]
  rw [← coe_sum, div_real _ _ (by norm_num), varR, mul_one_div]

/-- The reference's standard deviation of a series of reals. -/
theorem stdOf_apply (x : FVec Ideal S32x2048x256 .f32) (b : Fin 32) (n : Fin 256) (X : Fin 2048 → ℝ)
    (hx : ∀ s, x (ix3 b s n) = ((X s : ℝ) : EReal)) : stdOf x (ix3 b 0 n) = ((std X : ℝ) : EReal) := by
  pointwise [stdOf]
  rw [varOf_apply _ b n _ (centred_real x b n X hx), varR_sub_mean, word_eps, ← EReal.coe_add, ideal_sqrt _ (add_nonneg (varR_nonneg X) eps_pos.le), std]

/-- The normalised segments of a series of reals. -/
theorem segsOf_apply (x : FVec Ideal S32x2048x256 .f32) (k : Fin 8) (b : Fin 32) (p n : Fin 256) (X : Fin 2048 → ℝ)
    (hx : ∀ s, x (ix3 b s n) = ((X s : ℝ) : EReal)) :
    segsOf x (ix4 k b p n) = (((X ⟨256 * k.val + p.val, by omega⟩ - mean X) / std X : ℝ) : EReal) := by
  have e : (⟨k.val * 256 + p.val, by omega⟩ : Fin 2048) = ⟨256 * k.val + p.val, by omega⟩ := Fin.ext (by show k.val * 256 + p.val = 256 * k.val + p.val; omega)
  pointwise [segsOf]
  rw [e, centred_real x b n X hx, stdOf_apply x b n X hx, div_real _ _ (std_pos X).ne']

/-- The position each step and segment take in the list of powers. -/
theorem expIdx_apply : ∀ (l : Fin 4) (k : Fin 8), (expIdx (ix3 l k 0)).toInt.toNat = 7 - k.val + l.val := by
  decide +kernel

/-- The power each step and segment take, at an index. -/
theorem picked_apply (pw : FVec Ideal S11x256x256 .f32) (l : Fin 4) (k : Fin 8) (q p : Fin 256) :
    picked pw (ix4 l k q p) = pw (ix3 ⟨7 - k.val + l.val, by omega⟩ q p) := by
  have hs : ∀ h, gather_S11x256x256_S4x8x1_S4x8x256x256_23_0_n_n_0_2_1256256.siIdx (ix4 l k q p) ⟨0, h⟩ = ix3 l k 0 := fun h => by
    funext a
    match a with
    | ⟨0, _⟩ => rfl
    | ⟨1, _⟩ => rfl
    | ⟨2, _⟩ => rfl
  show pw (gather_S11x256x256_S4x8x1_S4x8x256x256_23_0_n_n_0_2_1256256.operandIdx (ix4 l k q p) expIdx) = _
  refine congrArg pw (funext fun a => Fin.ext ?_)
  match a with
  | ⟨0, _⟩ =>
    show min (expIdx (gather_S11x256x256_S4x8x1_S4x8x256x256_23_0_n_n_0_2_1256256.siIdx (ix4 l k q p) ⟨0, by decide⟩)).toInt.toNat (11 - 1) + 0 + 0 = 7 - k.val + l.val
    rw [hs, expIdx_apply]
    omega
  | ⟨1, _⟩ => exact Nat.zero_add _
  | ⟨2, _⟩ => exact Nat.zero_add _

/-- The list of powers at an index: the base matrix first, then the stack. -/
theorem powers_apply (w : FVec Ideal S256x256 .f32) (rest : FVec Ideal S10x256x256 .f32) (i : Fin 11) (q p : Fin 256) :
    powers w rest (ix3 i q p) = if h : i.val < 1 then w (ix2 q p) else rest (ix3 ⟨i.val - 1, by omega⟩ q p) := by
  pointwise [powers]

/-- The running power holds the powers of the base matrix. -/
theorem powAt_apply (w : FVec Ideal S256x256 .f32) (W : Matrix (Fin 256) (Fin 256) ℝ) (hw : ∀ q p, w (ix2 q p) = ((W q p : ℝ) : EReal)) :
    ∀ (k : ℕ) (q p : Fin 256), powAt w k (ix2 q p) = (((W ^ (k + 1)) q p : ℝ) : EReal)
  | 0, q, p => by rw [zero_add, pow_one]; exact hw q p
  | k + 1, q, p => by
    have ih := powAt_apply w W hw k
    pointwise [powAt]
    rw [pow_succ' W (k + 1), Matrix.mul_apply, coe_sum]
    refine Finset.sum_congr rfl fun j _ => ?_
    rw [hw, ih, EReal.coe_mul]

/-- One more trip writes one more member of the stack and leaves the others. -/
theorem stackAt_succ (w : FVec Ideal S256x256 .f32) (k : ℕ) (hk : k < 10) (i : Fin 10) (q p : Fin 256) :
    stackAt w (k + 1) (ix3 i q p) = if i.val = k then powAt w (k + 1) (ix2 q p) else stackAt w k (ix3 i q p) := by
  have hu : S10x256x256.Slices ![k, 0, 0] S1x256x256 := ⟨rfl, fun a => by
    match a with
    | ⟨0, _⟩ => show k + 1 ≤ 10; omega
    | ⟨1, _⟩ => show 0 + 256 ≤ 256; omega
    | ⟨2, _⟩ => show 0 + 256 ≤ 256; omega⟩
  have hi : (Scf.iv 0#32 1#32 k).toInt = (k : ℤ) := by
    interval_cases k <;> rfl
  rw [stackAt, WordCmp.dynamicUpdateSlice_eq_update _ _ _ _ ![k, 0, 0] hu (fun a => by
    match a with
    | ⟨0, _⟩ => exact hi
    | ⟨1, _⟩ => rfl
    | ⟨2, _⟩ => rfl)]
  pointwise
  by_cases e : i.val = k
  · rw [dif_pos ⟨e.ge, by omega⟩, if_pos e]
  · rw [dif_neg (by omega), if_neg e]

/-- The stack after a number of trips holds the powers written so far. -/
theorem stackAt_apply (w : FVec Ideal S256x256 .f32) (q p : Fin 256) : ∀ (k : ℕ) (hk : k ≤ 10) (i : Fin 10), i.val < k →
    stackAt w k (ix3 i q p) = powAt w (i.val + 1) (ix2 q p)
  | 0, _, i, h => absurd h (Nat.not_lt_zero _)
  | k + 1, hk, i, h => by
    rw [stackAt_succ w k hk]
    by_cases e : i.val = k
    · rw [if_pos e, e]
    · rw [if_neg e]
      exact stackAt_apply w q p k (by omega) i (by omega)

/-- The list of powers holds the powers of the base matrix. -/
theorem powers_value (w : FVec Ideal S256x256 .f32) (W : Matrix (Fin 256) (Fin 256) ℝ) (hw : ∀ q p, w (ix2 q p) = ((W q p : ℝ) : EReal))
    (i : Fin 11) (q p : Fin 256) : powers w (stackAt w 10) (ix3 i q p) = (((W ^ (i.val + 1)) q p : ℝ) : EReal) := by
  rw [powers_apply]
  by_cases h : i.val < 1
  · rw [dif_pos h, show i.val = 0 by omega, zero_add, pow_one, hw]
  · rw [dif_neg h, stackAt_apply w q p 10 le_rfl _ (by show i.val - 1 < 10; omega), powAt_apply w W hw]
    show (((W ^ (i.val - 1 + 1 + 1)) q p : ℝ) : EReal) = _
    rw [show i.val - 1 + 1 + 1 = i.val + 1 by omega]

/-- The carried segments at an index. -/
theorem carried_apply (seg : FVec Ideal S8x32x256x256 .f32) (wlk : FVec Ideal S4x8x256x256 .f32) (l : Fin 4) (k : Fin 8) (b : Fin 32) (q n : Fin 256) :
    carried seg wlk (ix5 l k b q n) = (∑ p, seg (ix4 k b p n) * wlk (ix4 l k q p) : EReal) := by
  pointwise [carried]

/-- The weighted sum at an index. -/
theorem decoded_apply (we : FVec Ideal S4x8 .f32) (be : FVec Ideal S4 .f32) (res : FVec Ideal S4x8x32x256x256 .f32) (l : Fin 4) (b : Fin 32) (q n : Fin 256) :
    decoded we be res (ix4 l b q n) = (∑ k, we (ix2 l k) * res (ix5 l k b q n) + be (ix1 l) : EReal) := by
  pointwise [decoded]

/-- The forecast on the scale of the series, at an index. -/
theorem restored_apply (dec : FVec Ideal S4x32x256x256 .f32) (sd mu : FVec Ideal S32x1x256 .f32) (b : Fin 32) (r : Fin 1024) (n : Fin 256) :
    restored dec sd mu (ix3 b r n) = (dec (ix4 ⟨r.val / 256, by omega⟩ b ⟨r.val % 256, by omega⟩ n) * sd (ix3 b 0 n) + mu (ix3 b 0 n) : EReal) := by
  pointwise [restored, spread]

/-- The reference's result at an index, of real operands. -/
theorem refVal_apply (x : FVec Ideal S32x2048x256 .f32) (w : FVec Ideal S256x256 .f32) (we : FVec Ideal S4x8 .f32) (be : FVec Ideal S4 .f32)
    (W : Matrix (Fin 256) (Fin 256) ℝ) (ω : Fin 4 → Fin 8 → ℝ) (hw : ∀ q p, w (ix2 q p) = ((W q p : ℝ) : EReal))
    (hwe : ∀ l k, we (ix2 l k) = ((ω l k : ℝ) : EReal))
    (b : Fin 32) (r : Fin 1024) (n : Fin 256) (X : Fin 2048 → ℝ) (hx : ∀ s, x (ix3 b s n) = ((X s : ℝ) : EReal)) :
    refVal x w we be (ix3 b r n)
      = ((((∑ s, coef W ω r s * ((X s - mean X) / std X) : ℝ) : EReal) + (be (ix1 ⟨r.val / 256, by omega⟩) : EReal)) * ((std X : ℝ) : EReal)
          + ((mean X : ℝ) : EReal)) := by
  rw [refVal, restored_apply, decoded_apply, stdOf_apply x b n X hx, meanOf_apply x b n X hx, sum_segments, coe_sum]
  congr 3
  refine Finset.sum_congr rfl fun k _ => ?_
  rw [carried_apply, hwe, coe_sum]
  have e : ∀ p : Fin 256, segsOf x (ix4 k b p n) * picked (powers w (stackAt w 10)) (ix4 ⟨r.val / 256, by omega⟩ k ⟨r.val % 256, by omega⟩ p)
      = (((X ⟨256 * k.val + p.val, by omega⟩ - mean X) / std X * (W ^ (7 - k.val + r.val / 256 + 1)) ⟨r.val % 256, by omega⟩ p : ℝ) : EReal) := fun p => by
    rw [segsOf_apply x k b p n X hx, picked_apply, powers_value w W hw, EReal.coe_mul]
  rw [Finset.sum_congr rfl fun p _ => e p, ← coe_sum, ← EReal.coe_mul, ← coe_sum, Finset.mul_sum]
  refine congrArg _ (Finset.sum_congr rfl fun p _ => ?_)
  rw [coef]
  have h1 : (⟨(256 * k.val + p.val) / 256, by omega⟩ : Fin 8) = k := Fin.ext (by show (256 * k.val + p.val) / 256 = k.val; omega)
  have h2 : (⟨(256 * k.val + p.val) % 256, by omega⟩ : Fin 256) = p := Fin.ext (by show (256 * k.val + p.val) % 256 = p.val; omega)
  have h3 : (256 * k.val + p.val) / 256 = k.val := by omega
  show _ = ω _ ⟨(256 * k.val + p.val) / 256, _⟩ * (W ^ (7 - (256 * k.val + p.val) / 256 + r.val / 256 + 1)) _ ⟨(256 * k.val + p.val) % 256, _⟩ * _
  rw [h1, h2, h3]
  ring

end Cert.ReferenceIdeal.Hand

end
-- ==== Proof.Agree.lean ====
module

public import proofs.«01_k».proof.Pre_finite_inputs
public import proofs.«01_k».proof.Proof.KernelMaths
public import proofs.«01_k».proof.Proof.RefMaths

@[expose] public section

set_option maxRecDepth 16384

noncomputable section

namespace Cert.Forecast

open Idealize.ShloMosaic
open scoped BigOperators

/-- The shapes the precondition's constants are spread over. -/
theorem finite_facts : Cert.Pre_finite_inputs.Facts where
  bcast_S_S32x2048x256 := by decide
  bcast_S_S256x256 := by decide
  bcast_S_S4x8 := by decide

/-- The word of infinity. -/
theorem word_top : Ideal.ofBits .f32 0x7F800000#32 = (⊤ : EReal) := by
  simp [Ideal.ofBits, Ideal.ieee]

/-- A number whose absolute value is below infinity is a real. -/
theorem real_of_abs_lt (a : EReal) (h : max a (-a) < ⊤) : a = ((a.toReal : ℝ) : EReal) := by
  refine (EReal.coe_toReal ?_ ?_).symm
  · rintro rfl
    exact absurd h (by simp)
  · rintro rfl
    exact absurd h (by simp)

/-- Where the comparison of the absolute values with infinity is all ones, every element is a real. -/
theorem real_of_finite {s : Shape} (x : FVec Ideal s .f32) (t : FVec Ideal s .f32) (ht : ∀ i, t i = (⊤ : EReal))
    (h : cmpf .olt (Host.absf x) t = fun _ => 1#1) (i : s.Idx) : x i = (((x i : EReal).toReal : ℝ) : EReal) := by
  refine real_of_abs_lt _ ?_
  have h1 : Ideal.cmp .olt (max (x i : EReal) (-(x i : EReal))) (t i) = 1#1 := congrFun h i
  rw [ht i] at h1
  by_contra hn
  rw [Ideal.cmp] at h1
  simp [hn] at h1

/-- The kernel's result is the reference's, for a real series, a real base matrix and real encoder weights. -/
theorem value_eq (x : FVec Ideal Cert.ReferenceIdeal.S32x2048x256 .f32) (w : FVec Ideal Cert.ReferenceIdeal.S256x256 .f32)
    (we : FVec Ideal Cert.ReferenceIdeal.S4x8 .f32) (be : FVec Ideal Cert.ReferenceIdeal.S4 .f32)
    (hx : ∀ i, x i = (((x i : EReal).toReal : ℝ) : EReal)) (hw : ∀ i, w i = (((w i : EReal).toReal : ℝ) : EReal))
    (hwe : ∀ i, we i = (((we i : EReal).toReal : ℝ) : EReal)) :
    Cert.KernelIdeal.Hand.outVal (F := Ideal) be w we x = Cert.ReferenceIdeal.Hand.refVal x w we be := by
  funext y
  obtain ⟨b, r, n, rfl⟩ : ∃ (b : Fin 32) (r : Fin 1024) (n : Fin 256), y = ix3 b r n := ⟨y 0, y 1, y 2, by
    funext a
    match a with
    | ⟨0, _⟩ => rfl
    | ⟨1, _⟩ => rfl
    | ⟨2, _⟩ => rfl⟩
  refine (Cert.KernelIdeal.Hand.outVal_apply be w we x (fun q p => (w (ix2 q p) : EReal).toReal) (fun l k => (we (ix2 l k) : EReal).toReal)
    (fun q p => hw _) (fun l k => hwe _) b r n (fun s => (x (ix3 b s n) : EReal).toReal) (fun s => hx _)).trans ?_
  refine Eq.trans ?_ (Cert.ReferenceIdeal.Hand.refVal_apply x w we be (fun q p => (w (ix2 q p) : EReal).toReal) (fun l k => (we (ix2 l k) : EReal).toReal)
    (fun q p => hw _) (fun l k => hwe _) b r n (fun s => (x (ix3 b s n) : EReal).toReal) (fun s => hx _)).symm
  exact offset_inside _ _ _ _ _ (std_pos _) _ (forecast_real _ _ _ (std_pos _).ne')

end Cert.Forecast

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelBits
public import proofs.«01_k».proof.Proof.KernelFrame
public import proofs.«01_k».proof.Proof.RefVal
public import proofs.«01_k».proof.Proof.Agree
public import Idealize.ShloMosaic.Adequacy
public import Idealize.ShloMosaic.Init

@[expose] public section

noncomputable section

namespace Cert.Proof

open Idealize.ShloMosaic Idealize.SL.Sem

/-- The kernel as printed terminates, keeps its arguments and leaves every counter at zero. -/
theorem frame_kernel : @Cert.quiescent_Kernel Cert.Kernel.Gen.facts :=
  fun m ρ _ => Cert.Kernel.Hand.frame (F := Bits) m ρ

/-- So does the kernel over the extended reals. -/
theorem frame_kernelIdeal : @Cert.quiescent_KernelIdeal Cert.KernelIdeal.Gen.facts :=
  fun m ρ _ => (θ_run _ _ _).mono (fun _ h => ⟨fun c => (h.1 c).2, h.2⟩) (Cert.KernelIdeal.Hand.run_all (F := Ideal) m ρ)

/-- So does the reference over the extended reals. -/
theorem frame_referenceIdeal : @Cert.quiescent_ReferenceIdeal Cert.ReferenceIdeal.Gen.facts :=
  fun m ρ _ => (θ_run _ _ _).mono (fun _ h => ⟨fun c => (h.1 c).2, h.2⟩) (Cert.ReferenceIdeal.Hand.run_all (F := Ideal) m ρ)

/-- The precondition makes the series, the base matrix and the encoder weights reals. -/
theorem reals (m : (ℓ : Loc Cert.KernelIdeal.nD Cert.KernelIdeal.τ Cert.KernelIdeal.sig) → Buf (Elt Ideal) ℓ)
    (h : @Cert.Pre_KernelIdeal_finite_inputs Cert.Forecast.finite_facts m) (c : Dev Cert.KernelIdeal.nD) :
    (∀ i, m ((c.tc : Thread Cert.KernelIdeal.nD Cert.KernelIdeal.τ).loc Cert.KernelIdeal.main_arg0) i
        = (((m ((c.tc : Thread Cert.KernelIdeal.nD Cert.KernelIdeal.τ).loc Cert.KernelIdeal.main_arg0) i : EReal).toReal : ℝ) : EReal))
    ∧ (∀ i, m ((c.tc : Thread Cert.KernelIdeal.nD Cert.KernelIdeal.τ).loc Cert.KernelIdeal.main_arg4) i
        = (((m ((c.tc : Thread Cert.KernelIdeal.nD Cert.KernelIdeal.τ).loc Cert.KernelIdeal.main_arg4) i : EReal).toReal : ℝ) : EReal))
    ∧ (∀ i, m ((c.tc : Thread Cert.KernelIdeal.nD Cert.KernelIdeal.τ).loc Cert.KernelIdeal.main_arg5) i
        = (((m ((c.tc : Thread Cert.KernelIdeal.nD Cert.KernelIdeal.τ).loc Cert.KernelIdeal.main_arg5) i : EReal).toReal : ℝ) : EReal)) :=
  ⟨Cert.Forecast.real_of_finite _ _ (fun _ => Cert.Forecast.word_top) (h c).1,
    Cert.Forecast.real_of_finite _ _ (fun _ => Cert.Forecast.word_top) (h c).2.1,
    Cert.Forecast.real_of_finite _ _ (fun _ => Cert.Forecast.word_top) (h c).2.2⟩

/-- From a finite series, base matrix and encoder weights, the kernel and the reference end with the same forecast. -/
theorem value : @Cert.algebraic_KernelIdeal_ReferenceIdeal_pre_finite_inputs Cert.KernelIdeal.Gen.facts Cert.ReferenceIdeal.Gen.facts Cert.Forecast.finite_facts := by
  intro m ρ m' ρ' hp ha
  refine ⟨fun c => Cert.KernelIdeal.Hand.result m c,
    (θ_run _ _ _).mono (fun _ h c => h.1 c) (Cert.KernelIdeal.Hand.run_all (F := Ideal) m ρ),
    (θ_run _ _ _).mono (fun _ h c => ⟨(h.1 c).1.trans ?_, (h.1 c).2⟩) (Cert.ReferenceIdeal.Hand.run_all (F := Ideal) m' ρ')⟩
  obtain ⟨h0, h1, h2, h3, h4, h5, h6⟩ := ha c
  obtain ⟨hx, hw, hwe⟩ := reals m hp c
  rw [Cert.ReferenceIdeal.Hand.fold_value, h0, h4, h5, h6]
  exact (Cert.Forecast.value_eq _ _ _ _ hx hw hwe).symm

/-- The whole claim. -/
theorem claim : Cert.Claim :=
  ⟨Cert.Kernel.Gen.facts, Cert.KernelIdeal.Gen.facts, Cert.ReferenceIdeal.Gen.facts, Cert.Forecast.finite_facts,
    frame_kernel, frame_kernelIdeal, fun m ρ _ => frame_kernelIdeal m ρ trivial,
    frame_referenceIdeal, fun m ρ _ => frame_referenceIdeal m ρ trivial, trivial, value⟩

end Cert.Proof

end
